-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjNext (m : (ℓ : Loc Cert.InProjNext.nD Cert.InProjNext.τ Cert.InProjNext.sig) → Buf (Elt Bits) ℓ) : Prop :=
  True

def Pre_InProjNextIdeal (m : (ℓ : Loc Cert.InProjNextIdeal.nD Cert.InProjNextIdeal.τ Cert.InProjNextIdeal.sig) → Buf (Elt Ideal) ℓ) : Prop :=
  True

def Pre_InProjNextRefIdeal (m : (ℓ : Loc Cert.InProjNextRefIdeal.nD Cert.InProjNextRefIdeal.τ Cert.InProjNextRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_PleLast (m : (ℓ : Loc Cert.PleLast.nD Cert.PleLast.τ Cert.PleLast.sig) → Buf (Elt Bits) ℓ) : Prop :=
  True

def Pre_PleLastIdeal (m : (ℓ : Loc Cert.PleLastIdeal.nD Cert.PleLastIdeal.τ Cert.PleLastIdeal.sig) → Buf (Elt Ideal) ℓ) : Prop :=
  True

def Pre_PleLastRefIdeal (m : (ℓ : Loc Cert.PleLastRefIdeal.nD Cert.PleLastRefIdeal.τ Cert.PleLastRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjNext [hInProjNext : Cert.InProjNext.Facts] : Prop :=
  ∀ (m : (ℓ : Loc Cert.InProjNext.nD Cert.InProjNext.τ Cert.InProjNext.sig) → Buf (Elt Bits) ℓ) (g : Dev Cert.InProjNext.nD → PrngReg), Pre_InProjNext m →
    θ_run (Cert.InProjNext.defs (F := Bits)) (onTc (τ := Cert.InProjNext.τ) (Cert.InProjNext.main (F := Bits))) ⟨m, fun _ => 0, g⟩ (fun r => (∀ c : Dev Cert.InProjNext.nD,
      r.2.mem ((c.tc : Thread Cert.InProjNext.nD Cert.InProjNext.τ).loc Cert.InProjNext.main_arg0) = m ((c.tc : Thread Cert.InProjNext.nD Cert.InProjNext.τ).loc Cert.InProjNext.main_arg0)
      ∧ r.2.mem ((c.tc : Thread Cert.InProjNext.nD Cert.InProjNext.τ).loc Cert.InProjNext.main_arg1) = m ((c.tc : Thread Cert.InProjNext.nD Cert.InProjNext.τ).loc Cert.InProjNext.main_arg1))
      ∧ r.2.sem = fun _ => 0)

def quiescent_InProjNextIdeal [hInProjNextIdeal : Cert.InProjNextIdeal.Facts] : Prop :=
  ∀ (m : (ℓ : Loc Cert.InProjNextIdeal.nD Cert.InProjNextIdeal.τ Cert.InProjNextIdeal.sig) → Buf (Elt Ideal) ℓ) (g : Dev Cert.InProjNextIdeal.nD → PrngReg), Pre_InProjNextIdeal m →
    θ_run (Cert.InProjNextIdeal.defs (F := Ideal)) (onTc (τ := Cert.InProjNextIdeal.τ) (Cert.InProjNextIdeal.main (F := Ideal))) ⟨m, fun _ => 0, g⟩ (fun r => (∀ c : Dev Cert.InProjNextIdeal.nD,
      r.2.mem ((c.tc : Thread Cert.InProjNextIdeal.nD Cert.InProjNextIdeal.τ).loc Cert.InProjNextIdeal.main_arg0) = m ((c.tc : Thread Cert.InProjNextIdeal.nD Cert.InProjNextIdeal.τ).loc Cert.InProjNextIdeal.main_arg0)
      ∧ r.2.mem ((c.tc : Thread Cert.InProjNextIdeal.nD Cert.InProjNextIdeal.τ).loc Cert.InProjNextIdeal.main_arg1) = m ((c.tc : Thread Cert.InProjNextIdeal.nD Cert.InProjNextIdeal.τ).loc Cert.InProjNextIdeal.main_arg1))
      ∧ r.2.sem = fun _ => 0)

def quiescent_InProjNextRefIdeal [hInProjNextRefIdeal : Cert.InProjNextRefIdeal.Facts] : Prop :=
  ∀ (m : (ℓ : Loc Cert.InProjNextRefIdeal.nD Cert.InProjNextRefIdeal.τ Cert.InProjNextRefIdeal.sig) → Buf (Elt Ideal) ℓ) (g : Dev Cert.InProjNextRefIdeal.nD → PrngReg), Pre_InProjNextRefIdeal m →
    θ_run (Cert.InProjNextRefIdeal.defs (F := Ideal)) (onTc (τ := Cert.InProjNextRefIdeal.τ) (Cert.InProjNextRefIdeal.main (F := Ideal))) ⟨m, fun _ => 0, g⟩ (fun r => (∀ c : Dev Cert.InProjNextRefIdeal.nD,
      r.2.mem ((c.tc : Thread Cert.InProjNextRefIdeal.nD Cert.InProjNextRefIdeal.τ).loc Cert.InProjNextRefIdeal.main_arg0) = m ((c.tc : Thread Cert.InProjNextRefIdeal.nD Cert.InProjNextRefIdeal.τ).loc Cert.InProjNextRefIdeal.main_arg0)
      ∧ r.2.mem ((c.tc : Thread Cert.InProjNextRefIdeal.nD Cert.InProjNextRefIdeal.τ).loc Cert.InProjNextRefIdeal.main_arg1) = m ((c.tc : Thread Cert.InProjNextRefIdeal.nD Cert.InProjNextRefIdeal.τ).loc Cert.InProjNextRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleLast [hPleLast : Cert.PleLast.Facts] : Prop :=
  ∀ (m : (ℓ : Loc Cert.PleLast.nD Cert.PleLast.τ Cert.PleLast.sig) → Buf (Elt Bits) ℓ) (g : Dev Cert.PleLast.nD → PrngReg), Pre_PleLast m →
    θ_run (Cert.PleLast.defs (F := Bits)) (onTc (τ := Cert.PleLast.τ) (Cert.PleLast.main (F := Bits))) ⟨m, fun _ => 0, g⟩ (fun r => (∀ c : Dev Cert.PleLast.nD,
      r.2.mem ((c.tc : Thread Cert.PleLast.nD Cert.PleLast.τ).loc Cert.PleLast.main_arg0) = m ((c.tc : Thread Cert.PleLast.nD Cert.PleLast.τ).loc Cert.PleLast.main_arg0)
      ∧ r.2.mem ((c.tc : Thread Cert.PleLast.nD Cert.PleLast.τ).loc Cert.PleLast.main_arg1) = m ((c.tc : Thread Cert.PleLast.nD Cert.PleLast.τ).loc Cert.PleLast.main_arg1)
      ∧ r.2.mem ((c.tc : Thread Cert.PleLast.nD Cert.PleLast.τ).loc Cert.PleLast.main_arg2) = m ((c.tc : Thread Cert.PleLast.nD Cert.PleLast.τ).loc Cert.PleLast.main_arg2)
      ∧ r.2.mem ((c.tc : Thread Cert.PleLast.nD Cert.PleLast.τ).loc Cert.PleLast.main_arg3) = m ((c.tc : Thread Cert.PleLast.nD Cert.PleLast.τ).loc Cert.PleLast.main_arg3)
      ∧ r.2.mem ((c.tc : Thread Cert.PleLast.nD Cert.PleLast.τ).loc Cert.PleLast.main_arg4) = m ((c.tc : Thread Cert.PleLast.nD Cert.PleLast.τ).loc Cert.PleLast.main_arg4)
      ∧ r.2.mem ((c.tc : Thread Cert.PleLast.nD Cert.PleLast.τ).loc Cert.PleLast.main_arg5) = m ((c.tc : Thread Cert.PleLast.nD Cert.PleLast.τ).loc Cert.PleLast.main_arg5))
      ∧ r.2.sem = fun _ => 0)

def quiescent_PleLastIdeal [hPleLastIdeal : Cert.PleLastIdeal.Facts] : Prop :=
  ∀ (m : (ℓ : Loc Cert.PleLastIdeal.nD Cert.PleLastIdeal.τ Cert.PleLastIdeal.sig) → Buf (Elt Ideal) ℓ) (g : Dev Cert.PleLastIdeal.nD → PrngReg), Pre_PleLastIdeal m →
    θ_run (Cert.PleLastIdeal.defs (F := Ideal)) (onTc (τ := Cert.PleLastIdeal.τ) (Cert.PleLastIdeal.main (F := Ideal))) ⟨m, fun _ => 0, g⟩ (fun r => (∀ c : Dev Cert.PleLastIdeal.nD,
      r.2.mem ((c.tc : Thread Cert.PleLastIdeal.nD Cert.PleLastIdeal.τ).loc Cert.PleLastIdeal.main_arg0) = m ((c.tc : Thread Cert.PleLastIdeal.nD Cert.PleLastIdeal.τ).loc Cert.PleLastIdeal.main_arg0)
      ∧ r.2.mem ((c.tc : Thread Cert.PleLastIdeal.nD Cert.PleLastIdeal.τ).loc Cert.PleLastIdeal.main_arg1) = m ((c.tc : Thread Cert.PleLastIdeal.nD Cert.PleLastIdeal.τ).loc Cert.PleLastIdeal.main_arg1)
      ∧ r.2.mem ((c.tc : Thread Cert.PleLastIdeal.nD Cert.PleLastIdeal.τ).loc Cert.PleLastIdeal.main_arg2) = m ((c.tc : Thread Cert.PleLastIdeal.nD Cert.PleLastIdeal.τ).loc Cert.PleLastIdeal.main_arg2)
      ∧ r.2.mem ((c.tc : Thread Cert.PleLastIdeal.nD Cert.PleLastIdeal.τ).loc Cert.PleLastIdeal.main_arg3) = m ((c.tc : Thread Cert.PleLastIdeal.nD Cert.PleLastIdeal.τ).loc Cert.PleLastIdeal.main_arg3)
      ∧ r.2.mem ((c.tc : Thread Cert.PleLastIdeal.nD Cert.PleLastIdeal.τ).loc Cert.PleLastIdeal.main_arg4) = m ((c.tc : Thread Cert.PleLastIdeal.nD Cert.PleLastIdeal.τ).loc Cert.PleLastIdeal.main_arg4)
      ∧ r.2.mem ((c.tc : Thread Cert.PleLastIdeal.nD Cert.PleLastIdeal.τ).loc Cert.PleLastIdeal.main_arg5) = m ((c.tc : Thread Cert.PleLastIdeal.nD Cert.PleLastIdeal.τ).loc Cert.PleLastIdeal.main_arg5))
      ∧ r.2.sem = fun _ => 0)

def quiescent_PleLastRefIdeal [hPleLastRefIdeal : Cert.PleLastRefIdeal.Facts] : Prop :=
  ∀ (m : (ℓ : Loc Cert.PleLastRefIdeal.nD Cert.PleLastRefIdeal.τ Cert.PleLastRefIdeal.sig) → Buf (Elt Ideal) ℓ) (g : Dev Cert.PleLastRefIdeal.nD → PrngReg), Pre_PleLastRefIdeal m →
    θ_run (Cert.PleLastRefIdeal.defs (F := Ideal)) (onTc (τ := Cert.PleLastRefIdeal.τ) (Cert.PleLastRefIdeal.main (F := Ideal))) ⟨m, fun _ => 0, g⟩ (fun r => (∀ c : Dev Cert.PleLastRefIdeal.nD,
      r.2.mem ((c.tc : Thread Cert.PleLastRefIdeal.nD Cert.PleLastRefIdeal.τ).loc Cert.PleLastRefIdeal.main_arg0) = m ((c.tc : Thread Cert.PleLastRefIdeal.nD Cert.PleLastRefIdeal.τ).loc Cert.PleLastRefIdeal.main_arg0)
      ∧ r.2.mem ((c.tc : Thread Cert.PleLastRefIdeal.nD Cert.PleLastRefIdeal.τ).loc Cert.PleLastRefIdeal.main_arg1) = m ((c.tc : Thread Cert.PleLastRefIdeal.nD Cert.PleLastRefIdeal.τ).loc Cert.PleLastRefIdeal.main_arg1)
      ∧ r.2.mem ((c.tc : Thread Cert.PleLastRefIdeal.nD Cert.PleLastRefIdeal.τ).loc Cert.PleLastRefIdeal.main_arg2) = m ((c.tc : Thread Cert.PleLastRefIdeal.nD Cert.PleLastRefIdeal.τ).loc Cert.PleLastRefIdeal.main_arg2)
      ∧ r.2.mem ((c.tc : Thread Cert.PleLastRefIdeal.nD Cert.PleLastRefIdeal.τ).loc Cert.PleLastRefIdeal.main_arg3) = m ((c.tc : Thread Cert.PleLastRefIdeal.nD Cert.PleLastRefIdeal.τ).loc Cert.PleLastRefIdeal.main_arg3)
      ∧ r.2.mem ((c.tc : Thread Cert.PleLastRefIdeal.nD Cert.PleLastRefIdeal.τ).loc Cert.PleLastRefIdeal.main_arg4) = m ((c.tc : Thread Cert.PleLastRefIdeal.nD Cert.PleLastRefIdeal.τ).loc Cert.PleLastRefIdeal.main_arg4)
      ∧ r.2.mem ((c.tc : Thread Cert.PleLastRefIdeal.nD Cert.PleLastRefIdeal.τ).loc Cert.PleLastRefIdeal.main_arg5) = m ((c.tc : Thread Cert.PleLastRefIdeal.nD Cert.PleLastRefIdeal.τ).loc Cert.PleLastRefIdeal.main_arg5))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v15)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v15) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v27) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InProjNext_InProjNextIdeal : Prop :=
  True

def algebraic_InProjNextIdeal_InProjNextRefIdeal [hInProjNextIdeal : Cert.InProjNextIdeal.Facts] [hInProjNextRefIdeal : Cert.InProjNextRefIdeal.Facts] : Prop :=
  ∀ (m : (ℓ : Loc Cert.InProjNextIdeal.nD Cert.InProjNextIdeal.τ Cert.InProjNextIdeal.sig) → Buf (Elt Ideal) ℓ) (g : Dev Cert.InProjNextIdeal.nD → PrngReg)
    (m' : (ℓ : Loc Cert.InProjNextRefIdeal.nD Cert.InProjNextRefIdeal.τ Cert.InProjNextRefIdeal.sig) → Buf (Elt Ideal) ℓ) (g' : Dev Cert.InProjNextRefIdeal.nD → PrngReg), Pre_InProjNextIdeal m →
    (∀ c : Dev Cert.InProjNextIdeal.nD,
      m' ((c.tc : Thread Cert.InProjNextRefIdeal.nD Cert.InProjNextRefIdeal.τ).loc Cert.InProjNextRefIdeal.main_arg0) = m ((c.tc : Thread Cert.InProjNextIdeal.nD Cert.InProjNextIdeal.τ).loc Cert.InProjNextIdeal.main_arg0)
      ∧ m' ((c.tc : Thread Cert.InProjNextRefIdeal.nD Cert.InProjNextRefIdeal.τ).loc Cert.InProjNextRefIdeal.main_arg1) = m ((c.tc : Thread Cert.InProjNextIdeal.nD Cert.InProjNextIdeal.τ).loc Cert.InProjNextIdeal.main_arg1)) →
    ∃ (v0 : (c : Dev Cert.InProjNextIdeal.nD) → Buf (Elt Ideal) ((c.tc : Thread Cert.InProjNextIdeal.nD Cert.InProjNextIdeal.τ).loc Cert.InProjNextIdeal.main_v14)),
      θ_run (Cert.InProjNextIdeal.defs (F := Ideal)) (onTc (τ := Cert.InProjNextIdeal.τ) (Cert.InProjNextIdeal.main (F := Ideal))) ⟨m, fun _ => 0, g⟩ (fun r => ∀ c : Dev Cert.InProjNextIdeal.nD,
          r.2.mem ((c.tc : Thread Cert.InProjNextIdeal.nD Cert.InProjNextIdeal.τ).loc Cert.InProjNextIdeal.main_v14) = v0 c
          ∧ r.2.mem ((c.tc : Thread Cert.InProjNextIdeal.nD Cert.InProjNextIdeal.τ).loc Cert.InProjNextIdeal.main_arg0) = m ((c.tc : Thread Cert.InProjNextIdeal.nD Cert.InProjNextIdeal.τ).loc Cert.InProjNextIdeal.main_arg0)
          ∧ r.2.mem ((c.tc : Thread Cert.InProjNextIdeal.nD Cert.InProjNextIdeal.τ).loc Cert.InProjNextIdeal.main_arg1) = m ((c.tc : Thread Cert.InProjNextIdeal.nD Cert.InProjNextIdeal.τ).loc Cert.InProjNextIdeal.main_arg1))
      ∧ θ_run (Cert.InProjNextRefIdeal.defs (F := Ideal)) (onTc (τ := Cert.InProjNextRefIdeal.τ) (Cert.InProjNextRefIdeal.main (F := Ideal))) ⟨m', fun _ => 0, g'⟩ (fun r => ∀ c : Dev Cert.InProjNextRefIdeal.nD,
          r.2.mem ((c.tc : Thread Cert.InProjNextRefIdeal.nD Cert.InProjNextRefIdeal.τ).loc Cert.InProjNextRefIdeal.main_v15) = v0 c
          ∧ r.2.mem ((c.tc : Thread Cert.InProjNextRefIdeal.nD Cert.InProjNextRefIdeal.τ).loc Cert.InProjNextRefIdeal.main_arg0) = m' ((c.tc : Thread Cert.InProjNextRefIdeal.nD Cert.InProjNextRefIdeal.τ).loc Cert.InProjNextRefIdeal.main_arg0)
          ∧ r.2.mem ((c.tc : Thread Cert.InProjNextRefIdeal.nD Cert.InProjNextRefIdeal.τ).loc Cert.InProjNextRefIdeal.main_arg1) = m' ((c.tc : Thread Cert.InProjNextRefIdeal.nD Cert.InProjNextRefIdeal.τ).loc Cert.InProjNextRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_v18) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v38) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v2_0)) (v1 : (c : Dev Cert.FfnDownIdeal.nD) → Buf (Elt Ideal) ((c.tc : Thread Cert.FfnDownIdeal.nD Cert.FfnDownIdeal.τ).loc Cert.FfnDownIdeal.main_v2_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2_0) = v0 c
          ∧ r.2.mem ((c.tc : Thread Cert.FfnDownIdeal.nD Cert.FfnDownIdeal.τ).loc Cert.FfnDownIdeal.main_v2_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_v18) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v4_0)) (v1 : (c : Dev Cert.PleIdeal.nD) → Buf (Elt Ideal) ((c.tc : Thread Cert.PleIdeal.nD Cert.PleIdeal.τ).loc Cert.PleIdeal.main_v4_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4_0) = v0 c
          ∧ r.2.mem ((c.tc : Thread Cert.PleIdeal.nD Cert.PleIdeal.τ).loc Cert.PleIdeal.main_v4_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v17) = v0 c
          ∧ r.2.mem ((c.tc : Thread Cert.PleRefIdeal.nD Cert.PleRefIdeal.τ).loc Cert.PleRefIdeal.main_v31) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_PleLast_PleLastIdeal : Prop :=
  True

def algebraic_PleLastIdeal_PleLastRefIdeal [hPleLastIdeal : Cert.PleLastIdeal.Facts] [hPleLastRefIdeal : Cert.PleLastRefIdeal.Facts] : Prop :=
  ∀ (m : (ℓ : Loc Cert.PleLastIdeal.nD Cert.PleLastIdeal.τ Cert.PleLastIdeal.sig) → Buf (Elt Ideal) ℓ) (g : Dev Cert.PleLastIdeal.nD → PrngReg)
    (m' : (ℓ : Loc Cert.PleLastRefIdeal.nD Cert.PleLastRefIdeal.τ Cert.PleLastRefIdeal.sig) → Buf (Elt Ideal) ℓ) (g' : Dev Cert.PleLastRefIdeal.nD → PrngReg), Pre_PleLastIdeal m →
    (∀ c : Dev Cert.PleLastIdeal.nD,
      m' ((c.tc : Thread Cert.PleLastRefIdeal.nD Cert.PleLastRefIdeal.τ).loc Cert.PleLastRefIdeal.main_arg0) = m ((c.tc : Thread Cert.PleLastIdeal.nD Cert.PleLastIdeal.τ).loc Cert.PleLastIdeal.main_arg0)
      ∧ m' ((c.tc : Thread Cert.PleLastRefIdeal.nD Cert.PleLastRefIdeal.τ).loc Cert.PleLastRefIdeal.main_arg1) = m ((c.tc : Thread Cert.PleLastIdeal.nD Cert.PleLastIdeal.τ).loc Cert.PleLastIdeal.main_arg1)
      ∧ m' ((c.tc : Thread Cert.PleLastRefIdeal.nD Cert.PleLastRefIdeal.τ).loc Cert.PleLastRefIdeal.main_arg2) = m ((c.tc : Thread Cert.PleLastIdeal.nD Cert.PleLastIdeal.τ).loc Cert.PleLastIdeal.main_arg2)
      ∧ m' ((c.tc : Thread Cert.PleLastRefIdeal.nD Cert.PleLastRefIdeal.τ).loc Cert.PleLastRefIdeal.main_arg3) = m ((c.tc : Thread Cert.PleLastIdeal.nD Cert.PleLastIdeal.τ).loc Cert.PleLastIdeal.main_arg3)
      ∧ m' ((c.tc : Thread Cert.PleLastRefIdeal.nD Cert.PleLastRefIdeal.τ).loc Cert.PleLastRefIdeal.main_arg4) = m ((c.tc : Thread Cert.PleLastIdeal.nD Cert.PleLastIdeal.τ).loc Cert.PleLastIdeal.main_arg4)
      ∧ m' ((c.tc : Thread Cert.PleLastRefIdeal.nD Cert.PleLastRefIdeal.τ).loc Cert.PleLastRefIdeal.main_arg5) = m ((c.tc : Thread Cert.PleLastIdeal.nD Cert.PleLastIdeal.τ).loc Cert.PleLastIdeal.main_arg5)) →
    ∃ (v0 : (c : Dev Cert.PleLastIdeal.nD) → Buf (Elt Ideal) ((c.tc : Thread Cert.PleLastIdeal.nD Cert.PleLastIdeal.τ).loc Cert.PleLastIdeal.main_v4)),
      θ_run (Cert.PleLastIdeal.defs (F := Ideal)) (onTc (τ := Cert.PleLastIdeal.τ) (Cert.PleLastIdeal.main (F := Ideal))) ⟨m, fun _ => 0, g⟩ (fun r => ∀ c : Dev Cert.PleLastIdeal.nD,
          r.2.mem ((c.tc : Thread Cert.PleLastIdeal.nD Cert.PleLastIdeal.τ).loc Cert.PleLastIdeal.main_v4) = v0 c
          ∧ r.2.mem ((c.tc : Thread Cert.PleLastIdeal.nD Cert.PleLastIdeal.τ).loc Cert.PleLastIdeal.main_arg0) = m ((c.tc : Thread Cert.PleLastIdeal.nD Cert.PleLastIdeal.τ).loc Cert.PleLastIdeal.main_arg0)
          ∧ r.2.mem ((c.tc : Thread Cert.PleLastIdeal.nD Cert.PleLastIdeal.τ).loc Cert.PleLastIdeal.main_arg1) = m ((c.tc : Thread Cert.PleLastIdeal.nD Cert.PleLastIdeal.τ).loc Cert.PleLastIdeal.main_arg1)
          ∧ r.2.mem ((c.tc : Thread Cert.PleLastIdeal.nD Cert.PleLastIdeal.τ).loc Cert.PleLastIdeal.main_arg2) = m ((c.tc : Thread Cert.PleLastIdeal.nD Cert.PleLastIdeal.τ).loc Cert.PleLastIdeal.main_arg2)
          ∧ r.2.mem ((c.tc : Thread Cert.PleLastIdeal.nD Cert.PleLastIdeal.τ).loc Cert.PleLastIdeal.main_arg3) = m ((c.tc : Thread Cert.PleLastIdeal.nD Cert.PleLastIdeal.τ).loc Cert.PleLastIdeal.main_arg3)
          ∧ r.2.mem ((c.tc : Thread Cert.PleLastIdeal.nD Cert.PleLastIdeal.τ).loc Cert.PleLastIdeal.main_arg4) = m ((c.tc : Thread Cert.PleLastIdeal.nD Cert.PleLastIdeal.τ).loc Cert.PleLastIdeal.main_arg4)
          ∧ r.2.mem ((c.tc : Thread Cert.PleLastIdeal.nD Cert.PleLastIdeal.τ).loc Cert.PleLastIdeal.main_arg5) = m ((c.tc : Thread Cert.PleLastIdeal.nD Cert.PleLastIdeal.τ).loc Cert.PleLastIdeal.main_arg5))
      ∧ θ_run (Cert.PleLastRefIdeal.defs (F := Ideal)) (onTc (τ := Cert.PleLastRefIdeal.τ) (Cert.PleLastRefIdeal.main (F := Ideal))) ⟨m', fun _ => 0, g'⟩ (fun r => ∀ c : Dev Cert.PleLastRefIdeal.nD,
          r.2.mem ((c.tc : Thread Cert.PleLastRefIdeal.nD Cert.PleLastRefIdeal.τ).loc Cert.PleLastRefIdeal.main_v30) = v0 c
          ∧ r.2.mem ((c.tc : Thread Cert.PleLastRefIdeal.nD Cert.PleLastRefIdeal.τ).loc Cert.PleLastRefIdeal.main_arg0) = m' ((c.tc : Thread Cert.PleLastRefIdeal.nD Cert.PleLastRefIdeal.τ).loc Cert.PleLastRefIdeal.main_arg0)
          ∧ r.2.mem ((c.tc : Thread Cert.PleLastRefIdeal.nD Cert.PleLastRefIdeal.τ).loc Cert.PleLastRefIdeal.main_arg1) = m' ((c.tc : Thread Cert.PleLastRefIdeal.nD Cert.PleLastRefIdeal.τ).loc Cert.PleLastRefIdeal.main_arg1)
          ∧ r.2.mem ((c.tc : Thread Cert.PleLastRefIdeal.nD Cert.PleLastRefIdeal.τ).loc Cert.PleLastRefIdeal.main_arg2) = m' ((c.tc : Thread Cert.PleLastRefIdeal.nD Cert.PleLastRefIdeal.τ).loc Cert.PleLastRefIdeal.main_arg2)
          ∧ r.2.mem ((c.tc : Thread Cert.PleLastRefIdeal.nD Cert.PleLastRefIdeal.τ).loc Cert.PleLastRefIdeal.main_arg3) = m' ((c.tc : Thread Cert.PleLastRefIdeal.nD Cert.PleLastRefIdeal.τ).loc Cert.PleLastRefIdeal.main_arg3)
          ∧ r.2.mem ((c.tc : Thread Cert.PleLastRefIdeal.nD Cert.PleLastRefIdeal.τ).loc Cert.PleLastRefIdeal.main_arg4) = m' ((c.tc : Thread Cert.PleLastRefIdeal.nD Cert.PleLastRefIdeal.τ).loc Cert.PleLastRefIdeal.main_arg4)
          ∧ r.2.mem ((c.tc : Thread Cert.PleLastRefIdeal.nD Cert.PleLastRefIdeal.τ).loc Cert.PleLastRefIdeal.main_arg5) = m' ((c.tc : Thread Cert.PleLastRefIdeal.nD Cert.PleLastRefIdeal.τ).loc Cert.PleLastRefIdeal.main_arg5))

def preserves_Mixer_MixerIdeal : Prop :=
  True

def Claim : Prop :=
  ∃ (hInProj : Cert.InProj.Facts) (hInProjIdeal : Cert.InProjIdeal.Facts) (hInProjRefIdeal : Cert.InProjRefIdeal.Facts) (hInProjNext : Cert.InProjNext.Facts) (hInProjNextIdeal : Cert.InProjNextIdeal.Facts) (hInProjNextRefIdeal : Cert.InProjNextRefIdeal.Facts) (hOutProj : Cert.OutProj.Facts) (hOutProjIdeal : Cert.OutProjIdeal.Facts) (hOutProjRefIdeal : Cert.OutProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hPle : Cert.Ple.Facts) (hPleIdeal : Cert.PleIdeal.Facts) (hPleRefIdeal : Cert.PleRefIdeal.Facts) (hPleLast : Cert.PleLast.Facts) (hPleLastIdeal : Cert.PleLastIdeal.Facts) (hPleLastRefIdeal : Cert.PleLastRefIdeal.Facts) (hMixer : Cert.Mixer.Facts) (hMixerIdeal : Cert.MixerIdeal.Facts),
    quiescent_InProj (hInProj := hInProj)
    ∧ quiescent_InProjIdeal (hInProjIdeal := hInProjIdeal)
    ∧ quiescent_InProjRefIdeal (hInProjRefIdeal := hInProjRefIdeal)
    ∧ quiescent_InProjNext (hInProjNext := hInProjNext)
    ∧ quiescent_InProjNextIdeal (hInProjNextIdeal := hInProjNextIdeal)
    ∧ quiescent_InProjNextRefIdeal (hInProjNextRefIdeal := hInProjNextRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Ple (hPle := hPle)
    ∧ quiescent_PleIdeal (hPleIdeal := hPleIdeal)
    ∧ quiescent_PleRefIdeal (hPleRefIdeal := hPleRefIdeal)
    ∧ quiescent_PleLast (hPleLast := hPleLast)
    ∧ quiescent_PleLastIdeal (hPleLastIdeal := hPleLastIdeal)
    ∧ quiescent_PleLastRefIdeal (hPleLastRefIdeal := hPleLastRefIdeal)
    ∧ quiescent_Mixer (hMixer := hMixer)
    ∧ quiescent_MixerIdeal (hMixerIdeal := hMixerIdeal)
    ∧ preserves_InProj_InProjIdeal
    ∧ algebraic_InProjIdeal_InProjRefIdeal (hInProjIdeal := hInProjIdeal) (hInProjRefIdeal := hInProjRefIdeal)
    ∧ preserves_InProjNext_InProjNextIdeal
    ∧ algebraic_InProjNextIdeal_InProjNextRefIdeal (hInProjNextIdeal := hInProjNextIdeal) (hInProjNextRefIdeal := hInProjNextRefIdeal)
    ∧ preserves_OutProj_OutProjIdeal
    ∧ algebraic_OutProjIdeal_OutProjRefIdeal (hOutProjIdeal := hOutProjIdeal) (hOutProjRefIdeal := hOutProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Ple_PleIdeal
    ∧ algebraic_PleIdeal_PleRefIdeal (hPleIdeal := hPleIdeal) (hPleRefIdeal := hPleRefIdeal)
    ∧ preserves_PleLast_PleLastIdeal
    ∧ algebraic_PleLastIdeal_PleLastRefIdeal (hPleLastIdeal := hPleLastIdeal) (hPleLastRefIdeal := hPleLastRefIdeal)
    ∧ preserves_Mixer_MixerIdeal
-- ==== InProj.lean ====
abbrev S16384x2048 : Shape := ⟨2, ![16384, 2048]⟩
abbrev S2x2048x5664 : Shape := ⟨3, ![2, 2048, 5664]⟩
abbrev S2048 : Shape := ⟨1, ![2048]⟩
abbrev S_ : Shape := ⟨0, ![]⟩
abbrev S2x2048x96 : Shape := ⟨3, ![2, 2048, 96]⟩
abbrev S2x2048x1024 : Shape := ⟨3, ![2, 2048, 1024]⟩
abbrev S2x2048x512 : Shape := ⟨3, ![2, 2048, 512]⟩
abbrev S2x2048x3072 : Shape := ⟨3, ![2, 2048, 3072]⟩
abbrev S2x2048x16 : Shape := ⟨3, ![2, 2048, 16]⟩
abbrev S2x2048x5760 : Shape := ⟨3, ![2, 2048, 5760]⟩
abbrev S1x2048 : Shape := ⟨2, ![1, 2048]⟩
abbrev S16384x5760 : Shape := ⟨2, ![16384, 5760]⟩
abbrev S256x2048 : Shape := ⟨2, ![256, 2048]⟩
abbrev S1x2048x5760 : Shape := ⟨3, ![1, 2048, 5760]⟩
abbrev S256x5760 : Shape := ⟨2, ![256, 5760]⟩
abbrev S256 : Shape := ⟨1, ![256]⟩
abbrev S256x1 : Shape := ⟨2, ![256, 1]⟩
abbrev S2048x5760 : Shape := ⟨2, ![2048, 5760]⟩

abbrev nBuf : Space → Nat
  | .hbm => 20
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2x2048x5664, .f32⟩
  | .hbm, ⟨2, _⟩ => ⟨S2048, .f32⟩
  | .hbm, ⟨3, _⟩ => ⟨S_, .bf16⟩
  | .hbm, ⟨4, _⟩ => ⟨S2x2048x96, .bf16⟩
  | .hbm, ⟨5, _⟩ => ⟨S2x2048x1024, .f32⟩
  | .hbm, ⟨6, _⟩ => ⟨S2x2048x512, .f32⟩
  | .hbm, ⟨7, _⟩ => ⟨S2x2048x1024, .f32⟩
  | .hbm, ⟨8, _⟩ => ⟨S2x2048x3072, .f32⟩
  | .hbm, ⟨9, _⟩ => ⟨S2x2048x16, .f32⟩
  | .hbm, ⟨10, _⟩ => ⟨S2x2048x16, .f32⟩
  | .hbm, ⟨11, _⟩ => ⟨S2x2048x1024, .bf16⟩
  | .hbm, ⟨12, _⟩ => ⟨S2x2048x512, .bf16⟩
  | .hbm, ⟨13, _⟩ => ⟨S2x2048x1024, .bf16⟩
  | .hbm, ⟨14, _⟩ => ⟨S2x2048x3072, .bf16⟩
  | .hbm, ⟨15, _⟩ => ⟨S2x2048x16, .bf16⟩
  | .hbm, ⟨16, _⟩ => ⟨S2x2048x16, .bf16⟩
  | .hbm, ⟨17, _⟩ => ⟨S2x2048x5760, .bf16⟩
  | .hbm, ⟨18, _⟩ => ⟨S1x2048, .f32⟩
  | .hbm, ⟨19, _⟩ => ⟨S16384x5760, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x5760, .bf16⟩
  | .local _ .vmem, ⟨4, _⟩ => ⟨S256x5760, .f32⟩
  | .local _ .vmem, ⟨5, _⟩ => ⟨S256x5760, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x5760 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5760 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjRefIdeal.lean ====
abbrev S16384x2048 : Shape := ⟨2, ![16384, 2048]⟩
abbrev S2x2048x5664 : Shape := ⟨3, ![2, 2048, 5664]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x5664 : Shape := ⟨3, ![1, 2048, 5664]⟩
abbrev S2048x5664 : Shape := ⟨2, ![2048, 5664]⟩
abbrev S16384x5664 : Shape := ⟨2, ![16384, 5664]⟩
abbrev S16384x1024 : Shape := ⟨2, ![16384, 1024]⟩
abbrev S16384x256 : Shape := ⟨2, ![16384, 256]⟩
abbrev S16384x16 : Shape := ⟨2, ![16384, 16]⟩
abbrev S16384x512 : Shape := ⟨2, ![16384, 512]⟩
abbrev S16384x96 : Shape := ⟨2, ![16384, 96]⟩
abbrev S16384x5760 : Shape := ⟨2, ![16384, 5760]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048x5664, .f32⟩
  | .hbm, ⟨2, _⟩ => ⟨S2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S1x2048x5664, .f32⟩
  | .hbm, ⟨20, _⟩ => ⟨S2048x5664, .f32⟩
  | .hbm, ⟨21, _⟩ => ⟨S16384x5664, .f32⟩
  | .hbm, ⟨22, _⟩ => ⟨S16384x1024, .f32⟩
  | .hbm, ⟨23, _⟩ => ⟨S16384x1024, .f32⟩
  | .hbm, ⟨24, _⟩ => ⟨S16384x256, .f32⟩
  | .hbm, ⟨25, _⟩ => ⟨S16384x256, .f32⟩
  | .hbm, ⟨26, _⟩ => ⟨S16384x16, .f32⟩
  | .hbm, ⟨27, _⟩ => ⟨S16384x512, .f32⟩
  | .hbm, ⟨28, _⟩ => ⟨S16384x512, .f32⟩
  | .hbm, ⟨29, _⟩ => ⟨S16384x1024, .f32⟩
  | .hbm, ⟨30, _⟩ => ⟨S16384x1024, .f32⟩
  | .hbm, ⟨31, _⟩ => ⟨S16384x16, .f32⟩
  | .hbm, ⟨32, _⟩ => ⟨S_, .f32⟩
  | .hbm, ⟨33, _⟩ => ⟨S16384x96, .f32⟩
  | .hbm, ⟨34, _⟩ => ⟨S16384x5760, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== InProjNext.lean ====
abbrev S16384x2048 : Shape := ⟨2, ![16384, 2048]⟩
abbrev S2x2048x5664 : Shape := ⟨3, ![2, 2048, 5664]⟩
abbrev S_ : Shape := ⟨0, ![]⟩
abbrev S2x2048x96 : Shape := ⟨3, ![2, 2048, 96]⟩
abbrev S2x2048x1024 : Shape := ⟨3, ![2, 2048, 1024]⟩
abbrev S2x2048x512 : Shape := ⟨3, ![2, 2048, 512]⟩
abbrev S2x2048x3072 : Shape := ⟨3, ![2, 2048, 3072]⟩
abbrev S2x2048x16 : Shape := ⟨3, ![2, 2048, 16]⟩
abbrev S2x2048x5760 : Shape := ⟨3, ![2, 2048, 5760]⟩
abbrev S16384x5760 : Shape := ⟨2, ![16384, 5760]⟩
abbrev S512x2048 : Shape := ⟨2, ![512, 2048]⟩
abbrev S1x2048x5760 : Shape := ⟨3, ![1, 2048, 5760]⟩
abbrev S512x5760 : Shape := ⟨2, ![512, 5760]⟩
abbrev S2048x5760 : Shape := ⟨2, ![2048, 5760]⟩

abbrev nBuf : Space → Nat
  | .hbm => 18
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2x2048x5664, .f32⟩
  | .hbm, ⟨2, _⟩ => ⟨S_, .bf16⟩
  | .hbm, ⟨3, _⟩ => ⟨S2x2048x96, .bf16⟩
  | .hbm, ⟨4, _⟩ => ⟨S2x2048x1024, .f32⟩
  | .hbm, ⟨5, _⟩ => ⟨S2x2048x512, .f32⟩
  | .hbm, ⟨6, _⟩ => ⟨S2x2048x1024, .f32⟩
  | .hbm, ⟨7, _⟩ => ⟨S2x2048x3072, .f32⟩
  | .hbm, ⟨8, _⟩ => ⟨S2x2048x16, .f32⟩
  | .hbm, ⟨9, _⟩ => ⟨S2x2048x16, .f32⟩
  | .hbm, ⟨10, _⟩ => ⟨S2x2048x1024, .bf16⟩
  | .hbm, ⟨11, _⟩ => ⟨S2x2048x512, .bf16⟩
  | .hbm, ⟨12, _⟩ => ⟨S2x2048x1024, .bf16⟩
  | .hbm, ⟨13, _⟩ => ⟨S2x2048x3072, .bf16⟩
  | .hbm, ⟨14, _⟩ => ⟨S2x2048x16, .bf16⟩
  | .hbm, ⟨15, _⟩ => ⟨S2x2048x16, .bf16⟩
  | .hbm, ⟨16, _⟩ => ⟨S2x2048x5760, .bf16⟩
  | .hbm, ⟨17, _⟩ => ⟨S16384x5760, .f32⟩
  | .local _ .vmem, ⟨0, _⟩ => ⟨S512x2048, .bf16⟩
  | .local _ .vmem, ⟨1, _⟩ => ⟨S512x2048, .bf16⟩
  | .local _ .vmem, ⟨2, _⟩ => ⟨S1x2048x5760, .bf16⟩
  | .local _ .vmem, ⟨3, _⟩ => ⟨S512x5760, .f32⟩
  | .local _ .vmem, ⟨4, _⟩ => ⟨S512x5760, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x5760 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5760 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InProjNextRefIdeal.lean ====
abbrev S16384x2048 : Shape := ⟨2, ![16384, 2048]⟩
abbrev S2x2048x5664 : Shape := ⟨3, ![2, 2048, 5664]⟩
abbrev S1x2048x5664 : Shape := ⟨3, ![1, 2048, 5664]⟩
abbrev S2048x5664 : Shape := ⟨2, ![2048, 5664]⟩
abbrev S16384x5664 : Shape := ⟨2, ![16384, 5664]⟩
abbrev S16384x1024 : Shape := ⟨2, ![16384, 1024]⟩
abbrev S16384x256 : Shape := ⟨2, ![16384, 256]⟩
abbrev S16384x16 : Shape := ⟨2, ![16384, 16]⟩
abbrev S16384x512 : Shape := ⟨2, ![16384, 512]⟩
abbrev S_ : Shape := ⟨0, ![]⟩
abbrev S16384x96 : Shape := ⟨2, ![16384, 96]⟩
abbrev S16384x5760 : Shape := ⟨2, ![16384, 5760]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x5664, .f32⟩
  | .hbm, ⟨2, _⟩ => ⟨S16384x2048, .f32⟩
  | .hbm, ⟨3, _⟩ => ⟨S1x2048x5664, .f32⟩
  | .hbm, ⟨4, _⟩ => ⟨S2048x5664, .f32⟩
  | .hbm, ⟨5, _⟩ => ⟨S16384x5664, .f32⟩
  | .hbm, ⟨6, _⟩ => ⟨S16384x1024, .f32⟩
  | .hbm, ⟨7, _⟩ => ⟨S16384x1024, .f32⟩
  | .hbm, ⟨8, _⟩ => ⟨S16384x256, .f32⟩
  | .hbm, ⟨9, _⟩ => ⟨S16384x256, .f32⟩
  | .hbm, ⟨10, _⟩ => ⟨S16384x16, .f32⟩
  | .hbm, ⟨11, _⟩ => ⟨S16384x512, .f32⟩
  | .hbm, ⟨12, _⟩ => ⟨S16384x512, .f32⟩
  | .hbm, ⟨13, _⟩ => ⟨S16384x1024, .f32⟩
  | .hbm, ⟨14, _⟩ => ⟨S16384x1024, .f32⟩
  | .hbm, ⟨15, _⟩ => ⟨S16384x16, .f32⟩
  | .hbm, ⟨16, _⟩ => ⟨S_, .f32⟩
  | .hbm, ⟨17, _⟩ => ⟨S16384x96, .f32⟩
  | .hbm, ⟨18, _⟩ => ⟨S16384x5760, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== OutProj.lean ====
abbrev S16384x2048 : Shape := ⟨2, ![16384, 2048]⟩
abbrev S2x2048x2048 : Shape := ⟨3, ![2, 2048, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S512x128 : Shape := ⟨2, ![512, 128]⟩
abbrev S1x2048x512 : Shape := ⟨3, ![1, 2048, 512]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S2048, .f32⟩
  | .hbm, ⟨4, _⟩ => ⟨S2x2048x2048, .bf16⟩
  | .hbm, ⟨5, _⟩ => ⟨S1x2048, .f32⟩
  | .hbm, ⟨6, _⟩ => ⟨S16384x2048, .f32⟩
  | .hbm, ⟨7, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S16384x2048 : Shape := ⟨2, ![16384, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S2048, .f32⟩
  | .hbm, ⟨4, _⟩ => ⟨S16384x2048, .f32⟩
  | .hbm, ⟨5, _⟩ => ⟨S1x2048x2048, .f32⟩
  | .hbm, ⟨6, _⟩ => ⟨S2048x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== FfnUp.lean ====
abbrev S16384x2048 : Shape := ⟨2, ![16384, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x1x11264 : Shape := ⟨3, ![2, 1, 11264]⟩
abbrev S16384x5632 : Shape := ⟨2, ![16384, 5632]⟩
abbrev S2048x2048 : Shape := ⟨2, ![2048, 2048]⟩
abbrev S1x2048x512 : Shape := ⟨3, ![1, 2048, 512]⟩
abbrev S1x3x512 : Shape := ⟨3, ![1, 3, 512]⟩
abbrev S1x1x512 : Shape := ⟨3, ![1, 1, 512]⟩
abbrev S2048x512 : Shape := ⟨2, ![2048, 512]⟩
abbrev S1x2048x256 : Shape := ⟨3, ![1, 2048, 256]⟩
abbrev S2048x256 : Shape := ⟨2, ![2048, 256]⟩
abbrev S1x3x256 : Shape := ⟨3, ![1, 3, 256]⟩
abbrev S3x256 : Shape := ⟨2, ![3, 256]⟩
abbrev S3x512 : Shape := ⟨2, ![3, 512]⟩
abbrev S1x1x256 : Shape := ⟨3, ![1, 1, 256]⟩
abbrev S1x256 : Shape := ⟨2, ![1, 256]⟩
abbrev S1x512 : Shape := ⟨2, ![1, 512]⟩
abbrev S512x2048 : Shape := ⟨2, ![512, 2048]⟩
abbrev S512x512 : Shape := ⟨2, ![512, 512]⟩
abbrev S256x8x512 : Shape := ⟨3, ![256, 8, 512]⟩
abbrev S1x8x512 : Shape := ⟨3, ![1, 8, 512]⟩
abbrev S255x8x512 : Shape := ⟨3, ![255, 8, 512]⟩

abbrev nBuf : Space → Nat
  | .hbm => 6
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x1x11264, .f32⟩
  | .hbm, ⟨5, _⟩ => ⟨S16384x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S2048x512, .bf16⟩
  | .local _ .vmem, ⟨15, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnUpRefIdeal.lean ====
abbrev S16384x2048 : Shape := ⟨2, ![16384, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S8x2048x2048 : Shape := ⟨3, ![8, 2048, 2048]⟩
abbrev S1x2048x11264 : Shape := ⟨3, ![1, 2048, 11264]⟩
abbrev S2048x11264 : Shape := ⟨2, ![2048, 11264]⟩
abbrev S8x2048x11264 : Shape := ⟨3, ![8, 2048, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S_ : Shape := ⟨0, ![]⟩
abbrev S8x2050x11264 : Shape := ⟨3, ![8, 2050, 11264]⟩
abbrev S1x1x11264 : Shape := ⟨3, ![1, 1, 11264]⟩
abbrev S8x2048x5632 : Shape := ⟨3, ![8, 2048, 5632]⟩
abbrev S16384x5632 : Shape := ⟨2, ![16384, 5632]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S16384x2048, .f32⟩
  | .hbm, ⟨5, _⟩ => ⟨S8x2048x2048, .f32⟩
  | .hbm, ⟨6, _⟩ => ⟨S1x2048x11264, .f32⟩
  | .hbm, ⟨7, _⟩ => ⟨S2048x11264, .f32⟩
  | .hbm, ⟨8, _⟩ => ⟨S8x2048x11264, .f32⟩
  | .hbm, ⟨9, _⟩ => ⟨S1x3x11264, .f32⟩
  | .hbm, ⟨10, _⟩ => ⟨S3x11264, .f32⟩
  | .hbm, ⟨11, _⟩ => ⟨S1x11264, .f32⟩
  | .hbm, ⟨12, _⟩ => ⟨S11264, .f32⟩
  | .hbm, ⟨13, _⟩ => ⟨S_, .i32⟩
  | .hbm, ⟨14, _⟩ => ⟨S_, .f32⟩
  | .hbm, ⟨15, _⟩ => ⟨S8x2050x11264, .f32⟩
  | .hbm, ⟨16, _⟩ => ⟨S8x2048x11264, .f32⟩
  | .hbm, ⟨17, _⟩ => ⟨S1x11264, .f32⟩
  | .hbm, ⟨18, _⟩ => ⟨S11264, .f32⟩
  | .hbm, ⟨19, _⟩ => ⟨S1x1x11264, .f32⟩
  | .hbm, ⟨20, _⟩ => ⟨S8x2048x11264, .f32⟩
  | .hbm, ⟨21, _⟩ => ⟨S8x2048x11264, .f32⟩
  | .hbm, ⟨22, _⟩ => ⟨S1x1x11264, .f32⟩
  | .hbm, ⟨23, _⟩ => ⟨S8x2048x11264, .f32⟩
  | .hbm, ⟨24, _⟩ => ⟨S8x2048x11264, .f32⟩
  | .hbm, ⟨25, _⟩ => ⟨S8x2048x11264, .f32⟩
  | .hbm, ⟨26, _⟩ => ⟨S1x11264, .f32⟩
  | .hbm, ⟨27, _⟩ => ⟨S11264, .f32⟩
  | .hbm, ⟨28, _⟩ => ⟨S1x1x11264, .f32⟩
  | .hbm, ⟨29, _⟩ => ⟨S8x2048x11264, .f32⟩
  | .hbm, ⟨30, _⟩ => ⟨S8x2048x11264, .f32⟩
  | .hbm, ⟨31, _⟩ => ⟨S8x2048x11264, .f32⟩
  | .hbm, ⟨32, _⟩ => ⟨S8x2048x11264, .f32⟩
  | .hbm, ⟨33, _⟩ => ⟨S1x11264, .f32⟩
  | .hbm, ⟨34, _⟩ => ⟨S11264, .f32⟩
  | .hbm, ⟨35, _⟩ => ⟨S1x1x11264, .f32⟩
  | .hbm, ⟨36, _⟩ => ⟨S8x2048x11264, .f32⟩
  | .hbm, ⟨37, _⟩ => ⟨S8x2048x11264, .f32⟩
  | .hbm, ⟨38, _⟩ => ⟨S8x2048x11264, .f32⟩
  | .hbm, ⟨39, _⟩ => ⟨S8x2048x5632, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S_, .f32⟩
  | .hbm, ⟨44, _⟩ => ⟨S8x2048x5632, .f32⟩
  | .hbm, ⟨45, _⟩ => ⟨S8x2048x5632, .f32⟩
  | .hbm, ⟨46, _⟩ => ⟨S_, .f32⟩
  | .hbm, ⟨47, _⟩ => ⟨S8x2048x5632, .f32⟩
  | .hbm, ⟨48, _⟩ => ⟨S8x2048x5632, .f32⟩
  | .hbm, ⟨49, _⟩ => ⟨S8x2048x5632, .f32⟩
  | .hbm, ⟨50, _⟩ => ⟨S8x2048x5632, .f32⟩
  | .hbm, ⟨51, _⟩ => ⟨S16384x5632, .f32⟩
  | .hbm, ⟨52, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== FfnDown.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x2048 : Shape := ⟨2, ![1, 2048]⟩
abbrev S512x5632 : Shape := ⟨2, ![512, 5632]⟩
abbrev S1x5632x2048 : Shape := ⟨3, ![1, 5632, 2048]⟩
abbrev S512x2048 : Shape := ⟨2, ![512, 2048]⟩
abbrev S512x128 : Shape := ⟨2, ![512, 128]⟩
abbrev S512x512 : Shape := ⟨2, ![512, 512]⟩
abbrev S1x5632x512 : Shape := ⟨3, ![1, 5632, 512]⟩
abbrev S5632x512 : Shape := ⟨2, ![5632, 512]⟩
abbrev S512 : Shape := ⟨1, ![512]⟩
abbrev S512x1 : Shape := ⟨2, ![512, 1]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2048, .f32⟩
  | .hbm, ⟨4, _⟩ => ⟨S2x5632x2048, .bf16⟩
  | .hbm, ⟨5, _⟩ => ⟨S1x2048, .f32⟩
  | .hbm, ⟨6, _⟩ => ⟨S16384x2048, .f32⟩
  | .hbm, ⟨7, _⟩ => ⟨S16384x2048, .bf16⟩
  | .local _ .vmem, ⟨0, _⟩ => ⟨S512x5632, .bf16⟩
  | .local _ .vmem, ⟨1, _⟩ => ⟨S512x5632, .bf16⟩
  | .local _ .vmem, ⟨2, _⟩ => ⟨S1x5632x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownRefIdeal.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2048, .f32⟩
  | .hbm, ⟨4, _⟩ => ⟨S16384x5632, .f32⟩
  | .hbm, ⟨5, _⟩ => ⟨S1x5632x2048, .f32⟩
  | .hbm, ⟨6, _⟩ => ⟨S5632x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Ple.lean ====
abbrev S16384x2048 : Shape := ⟨2, ![16384, 2048]⟩
abbrev S2x2048x2048 : Shape := ⟨3, ![2, 2048, 2048]⟩
abbrev S2048 : Shape := ⟨1, ![2048]⟩
abbrev S2x8x2048x256 : Shape := ⟨4, ![2, 8, 2048, 256]⟩
abbrev S2x256x2048 : Shape := ⟨3, ![2, 256, 2048]⟩
abbrev S1x2048 : Shape := ⟨2, ![1, 2048]⟩
abbrev S2x16384x256 : Shape := ⟨3, ![2, 16384, 256]⟩
abbrev S512x2048 : Shape := ⟨2, ![512, 2048]⟩
abbrev S1x2048x2048 : Shape := ⟨3, ![1, 2048, 2048]⟩
abbrev S1x512x256 : Shape := ⟨3, ![1, 512, 256]⟩
abbrev S1x256x2048 : Shape := ⟨3, ![1, 256, 2048]⟩
abbrev S512x256 : Shape := ⟨2, ![512, 256]⟩
abbrev S512x128 : Shape := ⟨2, ![512, 128]⟩
abbrev S1x2048x512 : Shape := ⟨3, ![1, 2048, 512]⟩
abbrev S2048x512 : Shape := ⟨2, ![2048, 512]⟩
abbrev S512x512 : Shape := ⟨2, ![512, 512]⟩
abbrev S1x256x512 : Shape := ⟨3, ![1, 256, 512]⟩
abbrev S256x512 : Shape := ⟨2, ![256, 512]⟩
abbrev S512 : Shape := ⟨1, ![512]⟩
abbrev S512x1 : Shape := ⟨2, ![512, 1]⟩
abbrev S1x512 : Shape := ⟨2, ![1, 512]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S2048, .f32⟩
  | .hbm, ⟨4, _⟩ => ⟨S2x8x2048x256, .f32⟩
  | .hbm, ⟨5, _⟩ => ⟨S2x256x2048, .f32⟩
  | .hbm, ⟨6, _⟩ => ⟨S2x2048x2048, .bf16⟩
  | .hbm, ⟨7, _⟩ => ⟨S1x2048, .f32⟩
  | .hbm, ⟨8, _⟩ => ⟨S2x16384x256, .f32⟩
  | .hbm, ⟨9, _⟩ => ⟨S2x256x2048, .bf16⟩
  | .hbm, ⟨10, _⟩ => ⟨S16384x2048, .f32⟩
  | .hbm, ⟨11, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x512x256, .f32⟩
  | .local _ .vmem, ⟨7, _⟩ => ⟨S1x512x256, .f32⟩
  | .local _ .vmem, ⟨8, _⟩ => ⟨S1x256x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleRefIdeal.lean ====
abbrev S16384x2048 : Shape := ⟨2, ![16384, 2048]⟩
abbrev S2x2048x2048 : Shape := ⟨3, ![2, 2048, 2048]⟩
abbrev S2048 : Shape := ⟨1, ![2048]⟩
abbrev S2x8x2048x256 : Shape := ⟨4, ![2, 8, 2048, 256]⟩
abbrev S2x256x2048 : Shape := ⟨3, ![2, 256, 2048]⟩
abbrev S1x2048x2048 : Shape := ⟨3, ![1, 2048, 2048]⟩
abbrev S2048x2048 : Shape := ⟨2, ![2048, 2048]⟩
abbrev S_ : Shape := ⟨0, ![]⟩
abbrev S1x8x2048x256 : Shape := ⟨4, ![1, 8, 2048, 256]⟩
abbrev S8x2048x256 : Shape := ⟨3, ![8, 2048, 256]⟩
abbrev S16384x256 : Shape := ⟨2, ![16384, 256]⟩
abbrev S1x256x2048 : Shape := ⟨3, ![1, 256, 2048]⟩
abbrev S256x2048 : Shape := ⟨2, ![256, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S2048, .f32⟩
  | .hbm, ⟨4, _⟩ => ⟨S2x8x2048x256, .f32⟩
  | .hbm, ⟨5, _⟩ => ⟨S2x256x2048, .f32⟩
  | .hbm, ⟨6, _⟩ => ⟨S16384x2048, .f32⟩
  | .hbm, ⟨7, _⟩ => ⟨S1x2048x2048, .f32⟩
  | .hbm, ⟨8, _⟩ => ⟨S2048x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S1x8x2048x256, .f32⟩
  | .hbm, ⟨19, _⟩ => ⟨S8x2048x256, .f32⟩
  | .hbm, ⟨20, _⟩ => ⟨S16384x256, .f32⟩
  | .hbm, ⟨21, _⟩ => ⟨S1x256x2048, .f32⟩
  | .hbm, ⟨22, _⟩ => ⟨S256x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== PleLast.lean ====
abbrev S16384x2048 : Shape := ⟨2, ![16384, 2048]⟩
abbrev S2x2048x2048 : Shape := ⟨3, ![2, 2048, 2048]⟩
abbrev S2048 : Shape := ⟨1, ![2048]⟩
abbrev S2x8x2048x256 : Shape := ⟨4, ![2, 8, 2048, 256]⟩
abbrev S2x256x2048 : Shape := ⟨3, ![2, 256, 2048]⟩
abbrev S1x2048 : Shape := ⟨2, ![1, 2048]⟩
abbrev S2x16384x256 : Shape := ⟨3, ![2, 16384, 256]⟩
abbrev S512x2048 : Shape := ⟨2, ![512, 2048]⟩
abbrev S1x2048x2048 : Shape := ⟨3, ![1, 2048, 2048]⟩
abbrev S1x512x256 : Shape := ⟨3, ![1, 512, 256]⟩
abbrev S1x256x2048 : Shape := ⟨3, ![1, 256, 2048]⟩
abbrev S512x256 : Shape := ⟨2, ![512, 256]⟩
abbrev S512x128 : Shape := ⟨2, ![512, 128]⟩
abbrev S1x2048x512 : Shape := ⟨3, ![1, 2048, 512]⟩
abbrev S2048x512 : Shape := ⟨2, ![2048, 512]⟩
abbrev S512x512 : Shape := ⟨2, ![512, 512]⟩
abbrev S1x256x512 : Shape := ⟨3, ![1, 256, 512]⟩
abbrev S256x512 : Shape := ⟨2, ![256, 512]⟩
abbrev S512 : Shape := ⟨1, ![512]⟩
abbrev S512x1 : Shape := ⟨2, ![512, 1]⟩
abbrev S1x512 : Shape := ⟨2, ![1, 512]⟩

abbrev nBuf : Space → Nat
  | .hbm => 11
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S2048, .f32⟩
  | .hbm, ⟨4, _⟩ => ⟨S2x8x2048x256, .f32⟩
  | .hbm, ⟨5, _⟩ => ⟨S2x256x2048, .f32⟩
  | .hbm, ⟨6, _⟩ => ⟨S2x2048x2048, .bf16⟩
  | .hbm, ⟨7, _⟩ => ⟨S1x2048, .f32⟩
  | .hbm, ⟨8, _⟩ => ⟨S2x16384x256, .f32⟩
  | .hbm, ⟨9, _⟩ => ⟨S2x256x2048, .bf16⟩
  | .hbm, ⟨10, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x512x256, .f32⟩
  | .local _ .vmem, ⟨7, _⟩ => ⟨S1x512x256, .f32⟩
  | .local _ .vmem, ⟨8, _⟩ => ⟨S1x256x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleLastRefIdeal.lean ====
abbrev S16384x2048 : Shape := ⟨2, ![16384, 2048]⟩
abbrev S2x2048x2048 : Shape := ⟨3, ![2, 2048, 2048]⟩
abbrev S2048 : Shape := ⟨1, ![2048]⟩
abbrev S2x8x2048x256 : Shape := ⟨4, ![2, 8, 2048, 256]⟩
abbrev S2x256x2048 : Shape := ⟨3, ![2, 256, 2048]⟩
abbrev S1x2048x2048 : Shape := ⟨3, ![1, 2048, 2048]⟩
abbrev S2048x2048 : Shape := ⟨2, ![2048, 2048]⟩
abbrev S_ : Shape := ⟨0, ![]⟩
abbrev S1x8x2048x256 : Shape := ⟨4, ![1, 8, 2048, 256]⟩
abbrev S8x2048x256 : Shape := ⟨3, ![8, 2048, 256]⟩
abbrev S16384x256 : Shape := ⟨2, ![16384, 256]⟩
abbrev S1x256x2048 : Shape := ⟨3, ![1, 256, 2048]⟩
abbrev S256x2048 : Shape := ⟨2, ![256, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S2048, .f32⟩
  | .hbm, ⟨4, _⟩ => ⟨S2x8x2048x256, .f32⟩
  | .hbm, ⟨5, _⟩ => ⟨S2x256x2048, .f32⟩
  | .hbm, ⟨6, _⟩ => ⟨S16384x2048, .f32⟩
  | .hbm, ⟨7, _⟩ => ⟨S1x2048x2048, .f32⟩
  | .hbm, ⟨8, _⟩ => ⟨S2048x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S1x8x2048x256, .f32⟩
  | .hbm, ⟨19, _⟩ => ⟨S8x2048x256, .f32⟩
  | .hbm, ⟨20, _⟩ => ⟨S16384x256, .f32⟩
  | .hbm, ⟨21, _⟩ => ⟨S1x256x2048, .f32⟩
  | .hbm, ⟨22, _⟩ => ⟨S256x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Mixer.lean ====
abbrev S16384x5760 : Shape := ⟨2, ![16384, 5760]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S16x512 : Shape := ⟨2, ![16, 512]⟩
abbrev S512 : Shape := ⟨1, ![512]⟩
abbrev S256 : Shape := ⟨1, ![256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x1024 : Shape := ⟨2, ![1, 1024]⟩
abbrev S128x1024 : Shape := ⟨2, ![128, 1024]⟩
abbrev S128x512 : Shape := ⟨2, ![128, 512]⟩
abbrev S1 : Shape := ⟨1, ![1]⟩
abbrev S1x1536 : Shape := ⟨2, ![1, 1536]⟩
abbrev S2 : Shape := ⟨1, ![2]⟩
abbrev S16x64 : Shape := ⟨2, ![16, 64]⟩
abbrev S1x512 : Shape := ⟨2, ![1, 512]⟩
abbrev S1x256 : Shape := ⟨2, ![1, 256]⟩
abbrev S16384x2048 : Shape := ⟨2, ![16384, 2048]⟩
abbrev S128x5760 : Shape := ⟨2, ![128, 5760]⟩
abbrev S128x2048 : Shape := ⟨2, ![128, 2048]⟩
abbrev S136x1536 : Shape := ⟨2, ![136, 1536]⟩
abbrev S2x128x512 : Shape := ⟨3, ![2, 128, 512]⟩
abbrev S4x256x128 : Shape := ⟨3, ![4, 256, 128]⟩
abbrev S8x1536 : Shape := ⟨2, ![8, 1536]⟩
abbrev S128x1536 : Shape := ⟨2, ![128, 1536]⟩
abbrev S128x256 : Shape := ⟨2, ![128, 256]⟩
abbrev S1x128x512 : Shape := ⟨3, ![1, 128, 512]⟩
abbrev S1x256x128 : Shape := ⟨3, ![1, 256, 128]⟩
abbrev S256x128 : Shape := ⟨2, ![256, 128]⟩
abbrev S64x128 : Shape := ⟨2, ![64, 128]⟩
abbrev S64x256 : Shape := ⟨2, ![64, 256]⟩

abbrev nBuf : Space → Nat
  | .hbm => 122
  | .vmem => 21
  | .smem => 0
  | _ => 0

abbrev bufTy : (tb : Table) → Fin (tcTables nBuf tb) → BufTy
  | .hbm, ⟨0, _⟩ => ⟨S16384x5760, .f32⟩
  | .hbm, ⟨1, _⟩ => ⟨S4x1536, .f32⟩
  | .hbm, ⟨2, _⟩ => ⟨S1536, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S16x512, .f32⟩
  | .hbm, ⟨8, _⟩ => ⟨S512, .f32⟩
  | .hbm, ⟨9, _⟩ => ⟨S256, .f32⟩
  | .hbm, ⟨10, _⟩ => ⟨S128, .i32⟩
  | .hbm, ⟨11, _⟩ => ⟨S128x1, .i32⟩
  | .hbm, ⟨12, _⟩ => ⟨S128, .i32⟩
  | .hbm, ⟨13, _⟩ => ⟨S1x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S128x128, .bf16⟩
  | .hbm, ⟨18, _⟩ => ⟨S_, .i32⟩
  | .hbm, ⟨19, _⟩ => ⟨S_, .i32⟩
  | .hbm, ⟨20, _⟩ => ⟨S128x1, .i32⟩
  | .hbm, ⟨21, _⟩ => ⟨S128x1, .i32⟩
  | .hbm, ⟨22, _⟩ => ⟨S128x1, .i32⟩
  | .hbm, ⟨23, _⟩ => ⟨S_, .i32⟩
  | .hbm, ⟨24, _⟩ => ⟨S128x1, .i32⟩
  | .hbm, ⟨25, _⟩ => ⟨S128x1, .i1⟩
  | .hbm, ⟨26, _⟩ => ⟨S128x1, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i1⟩
  | .hbm, ⟨31, _⟩ => ⟨S128x1, .i1⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x1, .i32⟩
  | .hbm, ⟨36, _⟩ => ⟨S_, .i32⟩
  | .hbm, ⟨37, _⟩ => ⟨S_, .i32⟩
  | .hbm, ⟨38, _⟩ => ⟨S1x128, .i32⟩
  | .hbm, ⟨39, _⟩ => ⟨S1x128, .i32⟩
  | .hbm, ⟨40, _⟩ => ⟨S1x128, .i32⟩
  | .hbm, ⟨41, _⟩ => ⟨S_, .i32⟩
  | .hbm, ⟨42, _⟩ => ⟨S1x128, .i32⟩
  | .hbm, ⟨43, _⟩ => ⟨S1x128, .i1⟩
  | .hbm, ⟨44, _⟩ => ⟨S1x128, .i32⟩
  | .hbm, ⟨45, _⟩ => ⟨S1x128, .i32⟩
  | .hbm, ⟨46, _⟩ => ⟨S_, .i32⟩
  | .hbm, ⟨47, _⟩ => ⟨S1x128, .i32⟩
  | .hbm, ⟨48, _⟩ => ⟨S1x128, .i1⟩
  | .hbm, ⟨49, _⟩ => ⟨S1x128, .i1⟩
  | .hbm, ⟨50, _⟩ => ⟨S_, .i32⟩
  | .hbm, ⟨51, _⟩ => ⟨S1x128, .i32⟩
  | .hbm, ⟨52, _⟩ => ⟨S1x128, .i32⟩
  | .hbm, ⟨53, _⟩ => ⟨S1x128, .i32⟩
  | .hbm, ⟨54, _⟩ => ⟨S128x128, .i32⟩
  | .hbm, ⟨55, _⟩ => ⟨S128x128, .i32⟩
  | .hbm, ⟨56, _⟩ => ⟨S128x128, .i1⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S128x128, .i1⟩
  | .hbm, ⟨61, _⟩ => ⟨S128x128, .bf16⟩
  | .hbm, ⟨62, _⟩ => ⟨S128x128, .bf16⟩
  | .hbm, ⟨63, _⟩ => ⟨S128, .i32⟩
  | .hbm, ⟨64, _⟩ => ⟨S128x1, .i32⟩
  | .hbm, ⟨65, _⟩ => ⟨S1024, .i32⟩
  | .hbm, ⟨66, _⟩ => ⟨S1x1024, .i32⟩
  | .hbm, ⟨67, _⟩ => ⟨S_, .i32⟩
  | .hbm, ⟨68, _⟩ => ⟨S_, .i32⟩
  | .hbm, ⟨69, _⟩ => ⟨S1x1024, .i32⟩
  | .hbm, ⟨70, _⟩ => ⟨S1x1024, .i32⟩
  | .hbm, ⟨71, _⟩ => ⟨S1x1024, .i32⟩
  | .hbm, ⟨72, _⟩ => ⟨S_, .i32⟩
  | .hbm, ⟨73, _⟩ => ⟨S1x1024, .i32⟩
  | .hbm, ⟨74, _⟩ => ⟨S1x1024, .i1⟩
  | .hbm, ⟨75, _⟩ => ⟨S1x1024, .i32⟩
  | .hbm, ⟨76, _⟩ => ⟨S1x1024, .i32⟩
  | .hbm, ⟨77, _⟩ => ⟨S_, .i32⟩
  | .hbm, ⟨78, _⟩ => ⟨S1x1024, .i32⟩
  | .hbm, ⟨79, _⟩ => ⟨S1x1024, .i1⟩
  | .hbm, ⟨80, _⟩ => ⟨S1x1024, .i1⟩
  | .hbm, ⟨81, _⟩ => ⟨S_, .i32⟩
  | .hbm, ⟨82, _⟩ => ⟨S1x1024, .i32⟩
  | .hbm, ⟨83, _⟩ => ⟨S1x1024, .i32⟩
  | .hbm, ⟨84, _⟩ => ⟨S1x1024, .i32⟩
  | .hbm, ⟨85, _⟩ => ⟨S128x1024, .i32⟩
  | .hbm, ⟨86, _⟩ => ⟨S128x1024, .i32⟩
  | .hbm, ⟨87, _⟩ => ⟨S128x1024, .i1⟩
  | .hbm, ⟨88, _⟩ => ⟨S128x1024, .bf16⟩
  | .hbm, ⟨89, _⟩ => ⟨S_, .f32⟩
  | .hbm, ⟨90, _⟩ => ⟨S128x512, .f32⟩
  | .hbm, ⟨91, _⟩ => ⟨S_, .i32⟩
  | .hbm, ⟨92, _⟩ => ⟨S1, .i32⟩
  | .hbm, ⟨93, _⟩ => ⟨S128x512, .f32⟩
  | .hbm, ⟨94, _⟩ => ⟨S128x512, .bf16⟩
  | .hbm, ⟨95, _⟩ => ⟨S128x512, .f32⟩
  | .hbm, ⟨96, _⟩ => ⟨S128x512, .f32⟩
  | .hbm, ⟨97, _⟩ => ⟨S128x512, .bf16⟩
  | .hbm, ⟨98, _⟩ => ⟨S1x1536, .f32⟩
  | .hbm, ⟨99, _⟩ => ⟨S_, .f32⟩
  | .hbm, ⟨100, _⟩ => ⟨S1x128, .f32⟩
  | .hbm, ⟨101, _⟩ => ⟨S_, .i32⟩
  | .hbm, ⟨102, _⟩ => ⟨S1, .i32⟩
  | .hbm, ⟨103, _⟩ => ⟨S_, .i32⟩
  | .hbm, ⟨104, _⟩ => ⟨S1, .i32⟩
  | .hbm, ⟨105, _⟩ => ⟨S2, .i32⟩
  | .hbm, ⟨106, _⟩ => ⟨S1x128, .f32⟩
  | .hbm, ⟨107, _⟩ => ⟨S_, .f32⟩
  | .hbm, ⟨108, _⟩ => ⟨S1x128, .f32⟩
  | .hbm, ⟨109, _⟩ => ⟨S_, .i32⟩
  | .hbm, ⟨110, _⟩ => ⟨S1, .i32⟩
  | .hbm, ⟨111, _⟩ => ⟨S_, .i32⟩
  | .hbm, ⟨112, _⟩ => ⟨S1, .i32⟩
  | .hbm, ⟨113, _⟩ => ⟨S2, .i32⟩
  | .hbm, ⟨114, _⟩ => ⟨S1x128, .f32⟩
  | .hbm, ⟨115, _⟩ => ⟨S16x64, .f32⟩
  | .hbm, ⟨116, _⟩ => ⟨S1024, .f32⟩
  | .hbm, ⟨117, _⟩ => ⟨S1x1024, .f32⟩
  | .hbm, ⟨118, _⟩ => ⟨S1x1024, .f32⟩
  | .hbm, ⟨119, _⟩ => ⟨S1x512, .f32⟩
  | .hbm, ⟨120, _⟩ => ⟨S1x256, .f32⟩
  | .hbm, ⟨121, _⟩ => ⟨S16384x2048, .bf16⟩
  | .local _ .vmem, ⟨0, _⟩ => ⟨S128x5760, .f32⟩
  | .local _ .vmem, ⟨1, _⟩ => ⟨S128x5760, .f32⟩
  | .local _ .vmem, ⟨2, _⟩ => ⟨S4x1536, .f32⟩
  | .local _ .vmem, ⟨3, _⟩ => ⟨S1x1536, .f32⟩
  | .local _ .vmem, ⟨4, _⟩ => ⟨S1x128, .f32⟩
  | .local _ .vmem, ⟨5, _⟩ => ⟨S1x128, .f32⟩
  | .local _ .vmem, ⟨6, _⟩ => ⟨S1x1024, .f32⟩
  | .local _ .vmem, ⟨7, _⟩ => ⟨S1x1024, .f32⟩
  | .local _ .vmem, ⟨8, _⟩ => ⟨S128x512, .bf16⟩
  | .local _ .vmem, ⟨9, _⟩ => ⟨S128x512, .bf16⟩
  | .local _ .vmem, ⟨10, _⟩ => ⟨S1x512, .f32⟩
  | .local _ .vmem, ⟨11, _⟩ => ⟨S1x256, .f32⟩
  | .local _ .vmem, ⟨12, _⟩ => ⟨S128x128, .bf16⟩
  | .local _ .vmem, ⟨13, _⟩ => ⟨S128x128, .bf16⟩
  | .local _ .vmem, ⟨14, _⟩ => ⟨S128x128, .bf16⟩
  | .local _ .vmem, ⟨15, _⟩ => ⟨S128x1024, .bf16⟩
  | .local _ .vmem, ⟨16, _⟩ => ⟨S128x2048, .bf16⟩
  | .local _ .vmem, ⟨17, _⟩ => ⟨S128x2048, .bf16⟩
  | .local _ .vmem, ⟨18, _⟩ => ⟨S136x1536, .f32⟩
  | .local _ .vmem, ⟨19, _⟩ => ⟨S2x128x512, .f32⟩
  | .local _ .vmem, ⟨20, _⟩ => ⟨S4x256x128, .f32⟩
  | _, _ => ⟨S16384x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v8 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_c_1 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_c : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_0 : Ref sig .tc := ⟨.hbm, 81, rfl⟩
abbrev main_call2_v12 : Ref sig .tc := ⟨.hbm, 82, rfl⟩
abbrev main_call2_v13 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_cst : Ref sig .tc := ⟨.hbm, 89, rfl⟩
abbrev main_v28 : Ref sig .tc := ⟨.hbm, 90, rfl⟩
abbrev main_c_2 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_cst_3 : Ref sig .tc := ⟨.hbm, 99, rfl⟩
abbrev main_v36 : Ref sig .tc := ⟨.hbm, 100, rfl⟩
abbrev main_c_4 : Ref sig .tc := ⟨.hbm, 101, rfl⟩
abbrev main_v37 : Ref sig .tc := ⟨.hbm, 102, rfl⟩
abbrev main_c_5 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_cst_6 : Ref sig .tc := ⟨.hbm, 107, rfl⟩
abbrev main_v41 : Ref sig .tc := ⟨.hbm, 108, rfl⟩
abbrev main_c_7 : Ref sig .tc := ⟨.hbm, 109, rfl⟩
abbrev main_v42 : Ref sig .tc := ⟨.hbm, 110, rfl⟩
abbrev main_c_8 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x5760 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Proof.InProjValue.lean ====
module

public import proofs.«01_k».proof.Proof.Gen.InProjIdeal.Value
public import proofs.«01_k».proof.Proof.Gen.InProjRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Hand

open Cert.InProjIdeal Cert.InProjIdeal.Gen
open Cert.InProjRefIdeal.Read

variable (m : (ℓ : Loc nD τ sig) → Buf (Elt Ideal) ℓ)

/-- A value given by cases equals `x` when each case does. -/
theorem dite_eq_of {X : Sort*} {p : Prop} [Decidable p] {a : p → X} {b : ¬p → X} {x : X} (ha : ∀ h, a h = x)
    (hb : ∀ h, b h = x) : dite p a b = x := by
  by_cases h : p
  · rw [dif_pos h]; exact ha h
  · rw [dif_neg h]; exact hb h

/-- A layer's weight for the call's column `j`: the columns of the projection in the order the result holds them
    (x, B, C, z, then the attention part's q, k, v and gate, then the two narrow ones), zero in the unused columns. -/
def col (l : Fin 2) (W : FVec Ideal S2x2048x5664 .f32) (k : Fin 2048) (j : Fin 5760) : EReal :=
  if h : j.val < 1024 then W (ix3 l k ⟨j.val, by omega⟩)
  else if h : j.val < 1536 then W (ix3 l k ⟨j.val + 1024, by omega⟩)
  else if h : j.val < 2560 then W (ix3 l k ⟨j.val - 512, by omega⟩)
  else if h : j.val < 5632 then W (ix3 l k ⟨j.val + 16, by omega⟩)
  else if h : j.val < 5648 then W (ix3 l k ⟨j.val - 3072, by omega⟩)
  else if h : j.val < 5664 then W (ix3 l k ⟨j.val, h⟩)
  else 0

/-- The body's payload at an index: the normalised row against one column of the weight. -/
theorem pay_at (X : FVec Ideal S256x2048 .f32) (g : FVec Ideal S1x2048 .f32) (W : FVec Ideal S1x2048x5760 .bf16)
    (r : Fin 256) (j : Fin 5760) : k0_pay1 (F := Ideal) X g W (ix2 r j)
    = ∑ k : Fin 2048, X (ix2 r k) * Ideal.rsqrt (Ideal.div (∑ l : Fin 2048, X (ix2 r l) * X (ix2 r l))
        (Ideal.ofBits .f32 0x45000000#32) + Ideal.ofBits .f32 0x358637BD#32) * g (ix2 0 k) * W (ix3 0 k j) := by
  pointwise [k0_pay1]

/-- The reference at an index: the same row against the column of the weight that the result's order names. -/
theorem ref_at (X : FVec Ideal S16384x2048 .f32) (W : FVec Ideal S2x2048x5664 .f32) (g : FVec Ideal S2048 .f32)
    (r : Fin 16384) (j : Fin 5760) : val_main_v27 (F := Ideal) X W g (ix2 r j)
    = ∑ k : Fin 2048, X (ix2 r k) * Ideal.rsqrt (Ideal.div (∑ l : Fin 2048, X (ix2 r l) * X (ix2 r l))
        (Ideal.ofBits .f32 0x45000000#32) + Ideal.ofBits .f32 0x358637BD#32) * g (ix1 k) * col 0 W k j := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  iterate 10 (refine dite_eq_of (fun _ => ?_) (fun _ => ?_); rotate_left)
  rotate_left
  on_goal 11 =>
    symm
    refine Finset.sum_eq_zero fun k _ => ?_
    unfold col
    repeat' split
    all_goals first | omega | exact mul_zero _
  all_goals
    refine Finset.sum_congr rfl fun k _ => congrArg _ ?_
    unfold col
    repeat' split
    all_goals first | omega | exact congrArg W (congrArg (ix3 _ k) (Fin.ext (by first | (dsimp only; omega) | omega)))

/-- The gain's operand is the argument as one row. -/
theorem V14_at (c : Dev nD) (k : Fin 2048)  : V m c main_v14 (ix2 0 k) = m ((c : Thread nD τ).loc main_arg2) (ix1 k) := by
  entry_read
  pointwise []

/-- The seven column blocks of the permuted weights, side by side. -/
def cat7 (a : FVec Ideal S2x2048x1024 .bf16) (b : FVec Ideal S2x2048x512 .bf16) (d : FVec Ideal S2x2048x1024 .bf16)
    (e : FVec Ideal S2x2048x3072 .bf16) (f g : FVec Ideal S2x2048x16 .bf16) (z : FVec Ideal S2x2048x96 .bf16) :
    FVec Ideal S2x2048x5760 .bf16 :=
  concatenate S2x2048x5760 2 [⟨S2x2048x1024, a⟩, ⟨S2x2048x512, b⟩, ⟨S2x2048x1024, d⟩, ⟨S2x2048x3072, e⟩, ⟨S2x2048x16, f⟩,
    ⟨S2x2048x16, g⟩, ⟨S2x2048x96, z⟩]
    concatenates_S2x2048x1024_S2x2048x512_S2x2048x1024_S2x2048x3072_S2x2048x16_S2x2048x16_S2x2048x96_S2x2048x5760_d2

/-- The permuted weights as the host lines make them of the stored ones: column slices, cast and joined, then zero columns. -/
def wcat (w : FVec Ideal S2x2048x5664 .f32) : FVec Ideal S2x2048x5760 .bf16 :=
  cat7 (truncf .bf16 (extractStridedSlice S2x2048x1024 ![0, 0, 0] w slices_S2x2048x5664_S2x2048x1024_0_0_0) bitsLt_bf16_f32)
    (truncf .bf16 (extractStridedSlice S2x2048x512 ![0, 0, 2048] w slices_S2x2048x5664_S2x2048x512_0_0_2048) bitsLt_bf16_f32)
    (truncf .bf16 (extractStridedSlice S2x2048x1024 ![0, 0, 1024] w slices_S2x2048x5664_S2x2048x1024_0_0_1024) bitsLt_bf16_f32)
    (truncf .bf16 (extractStridedSlice S2x2048x3072 ![0, 0, 2576] w slices_S2x2048x5664_S2x2048x3072_0_0_2576) bitsLt_bf16_f32)
    (truncf .bf16 (extractStridedSlice S2x2048x16 ![0, 0, 2560] w slices_S2x2048x5664_S2x2048x16_0_0_2560) bitsLt_bf16_f32)
    (truncf .bf16 (extractStridedSlice S2x2048x16 ![0, 0, 5648] w slices_S2x2048x5664_S2x2048x16_0_0_5648) bitsLt_bf16_f32)
    (broadcastInDim S2x2048x96 ![] bcast_S_S2x2048x96 (constant S_ .bf16 0x0000#16))

/-- The seven blocks' join at a layer, a row and a column is the permuted column of the stored weights. -/
theorem wcat_at (w : FVec Ideal S2x2048x5664 .f32) (l : Fin 2) (k : Fin 2048) (j : Fin 5760) :
    wcat w (ix3 l k j) = col l w k j := by
  unfold wcat cat7
  pointwise []
  unfold col
  repeat' split
  all_goals first | omega | exact congrArg w (congrArg (ix3 l k) (Fin.ext (by first | (dsimp only; omega) | omega))) | rfl

/-- The kernel's weight operand is the permuted weights. -/
theorem V13 (c : Dev nD) : V m c main_v13 = wcat (m ((c : Thread nD τ).loc main_arg1)) := by
  show StableHlo.after hostOps0 _ _ = _
  after_results_simp
  dsimp only [Matrix.cons_val]
  show cat7 _ _ _ _ _ _ _ = _
  after_results_simp
  rfl

/-- Which blocks a grid point reads and writes: its own 256 rows, the whole gain and weights. -/
theorem idx : ∀ t : Fin cfg0.N, win0_0.index t = ![t.val, 0] ∧ win0_1.index t = ![0, 0]
    ∧ win0_2.index t = ![0, 0, 0] ∧ win0_3.index t = ![t.val, 0] ∧ t.val < 64 :=
  (by decide +kernel : ∀ t : Fin grid0.N, _)

/-- The body's payload on a block of rows is the reference on those rows, given what the blocks hold. -/
theorem point (X : FVec Ideal S256x2048 .f32) (g : FVec Ideal S1x2048 .f32) (W : FVec Ideal S1x2048x5760 .bf16)
    (X' : FVec Ideal Cert.InProjRefIdeal.S16384x2048 .f32) (W' : FVec Ideal Cert.InProjRefIdeal.S2x2048x5664 .f32)
    (g' : FVec Ideal Cert.InProjRefIdeal.S2048 .f32) (y : S256x5760.Idx) (z : Cert.InProjRefIdeal.S16384x5760.Idx)
    (hX : ∀ k : Fin 2048, X (ix2 (y 0) k) = X' (ix2 (z 0) k)) (hg : ∀ k : Fin 2048, g (ix2 0 k) = g' (ix1 k))
    (hW : ∀ k : Fin 2048, W (ix3 0 k (y 1)) = col 0 W' k (z 1)) :
    k0_pay1 (F := Ideal) X g W y = val_main_v27 (F := Ideal) X' W' g' z := by
  rw [eq_ix2 y, eq_ix2 z]
  refine (pay_at X g W (y 0) (y 1)).trans (Eq.trans ?_ (ref_at X' W' g' (z 0) (z 1)).symm)
  simp only [hX, hg, hW]

/-- The call's result is the reference's. -/
theorem final (c : Dev nD) : (dats m 0 c).arrAt 3 (cfgs 0).N
    = val_main_v27 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  refine point _ _ _ _ _ _ _ _ (fun k => ?_) (fun k => ?_) (fun k => ?_)
  · blk_ext [iblk, V, idx t]
  · refine Eq.trans ?_ (V14_at m c k)
    blk_ext [iblk, idx t]
  · refine Eq.trans ?_ (wcat_at _ 0 k _)
    rw [← V13]
    blk_ext [iblk, idx t]

end Cert.InProjIdeal.Hand
end
-- ==== Proof.Rows.lean ====
module

public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! Facts about one row of 2048 entries that several calls share: how the calls add a row's squares up, and their mean. -/

namespace Cert.Rows

/-- Two sums agree when their first terms are taken at the same place and the rest agree. -/
theorem step (f : Fin 2048 → EReal) {a b : Fin 2048} {s t : EReal} (h : a.val = b.val) (hs : s = t) :
    f a + s = f b + t := by rw [Fin.ext h, hs]

/-- A row's 2048 entries added 128 lanes at a time, then over the lanes, are the row's sum. -/
theorem lanes (f : Fin 2048 → EReal) :
    (∑ l : Fin 128, (0 + f ⟨l, by omega⟩ + f ⟨128 + l, by omega⟩ + f ⟨256 + l, by omega⟩ + f ⟨384 + l, by omega⟩
      + f ⟨512 + l, by omega⟩ + f ⟨512 + (128 + l), by omega⟩ + f ⟨512 + (256 + l), by omega⟩ + f ⟨512 + (384 + l), by omega⟩
      + f ⟨1024 + l, by omega⟩ + f ⟨1024 + (128 + l), by omega⟩ + f ⟨1024 + (256 + l), by omega⟩ + f ⟨1024 + (384 + l), by omega⟩
      + f ⟨1536 + l, by omega⟩ + f ⟨1536 + (128 + l), by omega⟩ + f ⟨1536 + (256 + l), by omega⟩
      + f ⟨1536 + (384 + l), by omega⟩)) = ∑ k : Fin 2048, f k := by
  rw [Fin.sum_univ_tiles 16 128 rfl f, Finset.sum_comm]
  refine Finset.sum_congr rfl fun l _ => ?_
  simp only [Fin.sum_univ_succ, Fin.sum_univ_zero, zero_add, add_zero]
  simp only [add_assoc]
  iterate 15 refine step f (by simp only [Fin.val_succ, Fin.val_zero]; try omega) ?_
  exact congrArg f (Fin.ext (by simp only [Fin.val_succ, Fin.val_zero]; try omega))

/-- Dividing by 2048 is multiplying by 1/2048. -/
theorem mean (a : EReal) : Ideal.div a (Ideal.ofBits .f32 0x45000000#32) = a * Ideal.ofBits .f32 0x3A000000#32 := by
  have h1 : Ideal.ofBits .f32 0x45000000#32 = ((2048 : ℝ) : EReal) := by
    simp [Ideal.ofBits, Ideal.ieee, -EReal.coe_mul]; norm_num
  have h2 : Ideal.ofBits .f32 0x3A000000#32 = ((1 / 2048 : ℝ) : EReal) := by
    simp [Ideal.ofBits, Ideal.ieee, -EReal.coe_mul]; norm_num
  rw [h1, h2, Ideal.div_coe (by norm_num)]

end Cert.Rows
end
-- ==== Proof.OutProjValue.lean ====
module

public import proofs.«01_k».proof.Proof.Gen.OutProjIdeal.Value
public import proofs.«01_k».proof.Proof.Gen.OutProjRefIdeal.Read
public import Idealize.ShloMosaic.Lib.Pipeline.ValueKit
public import Idealize.ShloMosaic.Lib.Pipeline.ReadBack
public import Idealize.ShloMosaic.Lib.Pointwise
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Hand

open Cert.OutProjIdeal Cert.OutProjIdeal.Gen
open Cert.OutProjRefIdeal.Read

variable (m : (ℓ : Loc nD τ sig) → Buf (Elt Ideal) ℓ)

/-- One column block of the updated residual at an index. -/
theorem upd_at (A : FVec Ideal S512x2048 .bf16) (W : FVec Ideal S1x2048x512 .bf16) (X : FVec Ideal S512x512 .f32)
    (r : Fin 512) (j : Fin 512) : k0_pay2 (F := Ideal) A W X (ix2 r j)
    = X (ix2 r j) + ∑ k : Fin 2048, A (ix2 r k) * W (ix3 0 k j) := by
  pointwise [k0_pay2]

/-- The second column block is updated as the first is. -/
theorem upd3 (A : FVec Ideal S512x2048 .bf16) (W : FVec Ideal S1x2048x512 .bf16) (X : FVec Ideal S512x512 .f32) : k0_pay3 (F := Ideal) A W X = k0_pay2 A W X := rfl
/-- The third column block is updated as the first is. -/
theorem upd5 (A : FVec Ideal S512x2048 .bf16) (W : FVec Ideal S1x2048x512 .bf16) (X : FVec Ideal S512x512 .f32) : k0_pay5 (F := Ideal) A W X = k0_pay2 A W X := rfl
/-- The fourth column block is updated as the first is. -/
theorem upd6 (A : FVec Ideal S512x2048 .bf16) (W : FVec Ideal S1x2048x512 .bf16) (X : FVec Ideal S512x512 .f32) : k0_pay6 (F := Ideal) A W X = k0_pay2 A W X := rfl
/-- The four column blocks are normalised alike. -/
theorem nrm10 (S : FVec Ideal S512x1 .f32) (Y : FVec Ideal S512x512 .f32) (g : FVec Ideal S1x512 .f32) :
    k0_pay10 (F := Ideal) S Y g = k0_pay9 S Y g := rfl
/-- The third column block is normalised as the first is. -/
theorem nrm11 (S : FVec Ideal S512x1 .f32) (Y : FVec Ideal S512x512 .f32) (g : FVec Ideal S1x512 .f32) :
    k0_pay11 (F := Ideal) S Y g = k0_pay9 S Y g := rfl
/-- The fourth column block is normalised as the first is. -/
theorem nrm1 (S : FVec Ideal S512x1 .f32) (Y : FVec Ideal S512x512 .f32) (g : FVec Ideal S1x512 .f32) :
    k0_pay1 (F := Ideal) (k0_pay12 S Y) g = k0_pay9 S Y g := rfl

/-- A row's mean square, plus the constant, as the body adds it up from its four column blocks. -/
theorem ss_at (A : FVec Ideal S512x2048 .bf16) (W0 W1 W2 W3 : FVec Ideal S1x2048x512 .bf16)
    (X0 X1 X2 X3 : FVec Ideal S512x512 .f32) (r : Fin 512) (f : Fin 2048 → EReal)
    (h0 : ∀ j : Fin 512, X0 (ix2 r j) + ∑ k : Fin 2048, A (ix2 r k) * W0 (ix3 0 k j) = f ⟨j, by omega⟩)
    (h1 : ∀ j : Fin 512, X1 (ix2 r j) + ∑ k : Fin 2048, A (ix2 r k) * W1 (ix3 0 k j) = f ⟨512 + j, by omega⟩)
    (h2 : ∀ j : Fin 512, X2 (ix2 r j) + ∑ k : Fin 2048, A (ix2 r k) * W2 (ix3 0 k j) = f ⟨1024 + j, by omega⟩)
    (h3 : ∀ j : Fin 512, X3 (ix2 r j) + ∑ k : Fin 2048, A (ix2 r k) * W3 (ix3 0 k j) = f ⟨1536 + j, by omega⟩) :
    k0_pay7 (F := Ideal) (k0_pay4 A W0 X0 A W1 X1) A W2 X2 A W3 X3 (ix2 r 0)
      = (∑ k : Fin 2048, f k * f k) * Ideal.ofBits .f32 0x3A000000#32 + Ideal.ofBits .f32 0x358637BD#32 := by
  rw [← Rows.lanes]
  pointwise [k0_pay7, k0_pay4, k0_pay2, k0_pay3, k0_pay5, k0_pay6]
  simp only [h0, h1, h2, h3]

/-- The first normalised column block at an index. -/
theorem nrm_at (S : FVec Ideal S512x1 .f32) (Y : FVec Ideal S512x512 .f32) (g : FVec Ideal S1x512 .f32)
    (r : Fin 512) (j : Fin 512) : k0_pay9 (F := Ideal) S Y g (ix2 r j)
    = Y (ix2 r j) * Ideal.rsqrt (S (ix2 r 0)) * g (ix2 0 j) := by
  pointwise [k0_pay9, k0_pay8]

/-- The reference's updated residual at an index. -/
theorem ref4_at (A : FVec Ideal Cert.OutProjRefIdeal.S16384x2048 .bf16) (W : FVec Ideal Cert.OutProjRefIdeal.S2x2048x2048 .f32)
    (X : FVec Ideal Cert.OutProjRefIdeal.S16384x2048 .f32) (r : Fin 16384) (j : Fin 2048) :
    val_main_v4 (F := Ideal) A W X (ix2 r j) = X (ix2 r j) + ∑ k : Fin 2048, A (ix2 r k) * W (ix3 0 k j) := by
  pointwise [val_main_v4, val_main_v3, val_main_v2, val_main_v1, val_main_v0]

/-- The reference's normalised row at an index, over the updated residual. -/
theorem ref18_at (A : FVec Ideal Cert.OutProjRefIdeal.S16384x2048 .bf16) (W : FVec Ideal Cert.OutProjRefIdeal.S2x2048x2048 .f32)
    (X : FVec Ideal Cert.OutProjRefIdeal.S16384x2048 .f32) (g : FVec Ideal Cert.OutProjRefIdeal.S2048 .f32)
    (f : Fin 16384 → Fin 2048 → EReal) (hf : ∀ r j, val_main_v4 (F := Ideal) A W X (ix2 r j) = f r j) (r : Fin 16384) (j : Fin 2048) :
    val_main_v18 (F := Ideal) A W X g (ix2 r j) = f r j * Ideal.rsqrt ((∑ k : Fin 2048, f r k * f r k)
      * Ideal.ofBits .f32 0x3A000000#32 + Ideal.ofBits .f32 0x358637BD#32) * g (ix1 j) := by
  rw [← Rows.mean]
  pointwise [val_main_v18, val_main_v17, val_main_v16, val_main_v15, val_main_v14, val_main_v13, val_main_v12, val_main_v11, val_main_v10, val_main_v9, val_main_v8, val_main_v7, val_main_v6, val_main_v5, val_main_cst, val_main_cst_0, val_main_cst_1]
  simp only [hf]

/-- Which blocks a grid point reads and writes: its own 512 rows, the whole weights and gain. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ t.val < 32 :=
  (by decide +kernel : ∀ t : Fin grid0.N, _)

/-- The gain's operand is the argument as one row. -/
theorem V1_at (c : Dev nD) (k : Fin 2048) : V m c main_v1 (ix2 0 k) = m ((c : Thread nD τ).loc main_arg3) (ix1 k) := by
  entry_read
  pointwise []

/-- The rows' block holds the grid point's own 512 rows. -/
theorem b0 (c : Dev nD) (t : Fin cfg0.N) (r : Fin 512) (k : Fin 2048) (r' : Fin 16384) (h : r'.val = t.val * 512 + r.val) :
    iblk m c 0 t (ix2 r k) = m ((c : Thread nD τ).loc main_arg0) (ix2 r' k) := by
  blk_ext [iblk, V, idx t]
/-- The weights' block holds the first layer's whole weight matrix. -/
theorem b1 (c : Dev nD) (t : Fin cfg0.N) (k : Fin 2048) (j j' : Fin 2048) (h : j'.val = j.val) :
    iblk m c 1 t (ix3 0 k j) = m ((c : Thread nD τ).loc main_arg1) (ix3 0 k j') := by
  blk_point [iblk, V, idx t]
/-- The residual's block holds the grid point's own 512 rows of the residual. -/
theorem b2 (c : Dev nD) (t : Fin cfg0.N) (r : Fin 512) (j : Fin 2048) (r' : Fin 16384) (j' : Fin 2048) (h : r'.val = t.val * 512 + r.val)
    (h' : j'.val = j.val) : iblk m c 2 t (ix2 r j) = m ((c : Thread nD τ).loc main_arg2) (ix2 r' j') := by
  blk_ext [iblk, V, idx t]
/-- The gain's block holds the gain. -/
theorem b3 (c : Dev nD) (t : Fin cfg0.N) (j j' : Fin 2048) (h : j'.val = j.val) :
    iblk m c 3 t (ix2 0 j) = m ((c : Thread nD τ).loc main_arg3) (ix1 j') := by
  rw [← V1_at m c]
  blk_ext [iblk, idx t]

/-- A normalised column block is the reference's on those rows and columns, given what the four blocks of the updated residual hold. -/
theorem point5 (A : FVec Ideal S512x2048 .bf16) (W0 W1 W2 W3 : FVec Ideal S1x2048x512 .bf16)
    (X0 X1 X2 X3 Y : FVec Ideal S512x512 .f32) (g : FVec Ideal S1x512 .f32)
    (A' : FVec Ideal Cert.OutProjRefIdeal.S16384x2048 .bf16) (W' : FVec Ideal Cert.OutProjRefIdeal.S2x2048x2048 .f32)
    (X' : FVec Ideal Cert.OutProjRefIdeal.S16384x2048 .f32) (g' : FVec Ideal Cert.OutProjRefIdeal.S2048 .f32)
    (x : S512x512.Idx) (z : Cert.OutProjRefIdeal.S16384x2048.Idx)
    (h0 : ∀ j : Fin 512, X0 (ix2 (x 0) j) + ∑ k : Fin 2048, A (ix2 (x 0) k) * W0 (ix3 0 k j)
      = val_main_v4 (F := Ideal) A' W' X' (ix2 (z 0) ⟨j, by omega⟩))
    (h1 : ∀ j : Fin 512, X1 (ix2 (x 0) j) + ∑ k : Fin 2048, A (ix2 (x 0) k) * W1 (ix3 0 k j)
      = val_main_v4 (F := Ideal) A' W' X' (ix2 (z 0) ⟨512 + j, by omega⟩))
    (h2 : ∀ j : Fin 512, X2 (ix2 (x 0) j) + ∑ k : Fin 2048, A (ix2 (x 0) k) * W2 (ix3 0 k j)
      = val_main_v4 (F := Ideal) A' W' X' (ix2 (z 0) ⟨1024 + j, by omega⟩))
    (h3 : ∀ j : Fin 512, X3 (ix2 (x 0) j) + ∑ k : Fin 2048, A (ix2 (x 0) k) * W3 (ix3 0 k j)
      = val_main_v4 (F := Ideal) A' W' X' (ix2 (z 0) ⟨1536 + j, by omega⟩))
    (hY : Y (ix2 (x 0) (x 1)) = val_main_v4 (F := Ideal) A' W' X' (ix2 (z 0) (z 1)))
    (hg : g (ix2 0 (x 1)) = g' (ix1 (z 1))) :
    k0_pay9 (F := Ideal) (k0_pay7 (k0_pay4 A W0 X0 A W1 X1) A W2 X2 A W3 X3) Y g x = val_main_v18 (F := Ideal) A' W' X' g' z := by
  rw [eq_ix2 x, eq_ix2 z]
  refine (nrm_at _ Y g (x 0) (x 1)).trans (Eq.trans ?_ (ref18_at A' W' X' g' _ (fun _ _ => rfl) (z 0) (z 1)).symm)
  exact Ideal.mul_congr (Ideal.mul_congr hY (congrArg Ideal.rsqrt
    (ss_at A W0 W1 W2 W3 X0 X1 X2 X3 (x 0) (fun k => val_main_v4 (F := Ideal) A' W' X' (ix2 (z 0) k)) h0 h1 h2 h3))) hg

/-- A residual entry plus its row times its column is the reference's, given what the blocks read hold. -/
theorem sum4 (A : FVec Ideal S512x2048 .bf16) (W : FVec Ideal S1x2048x512 .bf16) (X : FVec Ideal S512x512 .f32)
    (A' : FVec Ideal Cert.OutProjRefIdeal.S16384x2048 .bf16) (W' : FVec Ideal Cert.OutProjRefIdeal.S2x2048x2048 .f32)
    (X' : FVec Ideal Cert.OutProjRefIdeal.S16384x2048 .f32) (r j : Fin 512) (r' : Fin 16384) (j' : Fin 2048)
    (hX : X (ix2 r j) = X' (ix2 r' j')) (hA : ∀ k : Fin 2048, A (ix2 r k) = A' (ix2 r' k))
    (hW : ∀ k : Fin 2048, W (ix3 0 k j) = W' (ix3 0 k j')) :
    X (ix2 r j) + ∑ k : Fin 2048, A (ix2 r k) * W (ix3 0 k j) = val_main_v4 (F := Ideal) A' W' X' (ix2 r' j') := by
  refine Eq.trans ?_ (ref4_at A' W' X' r' j').symm
  simp only [hX, hA, hW]

/-- A column block of the updated residual is the reference's, given what the blocks read hold. -/
theorem point4 (A : FVec Ideal S512x2048 .bf16) (W : FVec Ideal S1x2048x512 .bf16) (X : FVec Ideal S512x512 .f32)
    (A' : FVec Ideal Cert.OutProjRefIdeal.S16384x2048 .bf16) (W' : FVec Ideal Cert.OutProjRefIdeal.S2x2048x2048 .f32)
    (X' : FVec Ideal Cert.OutProjRefIdeal.S16384x2048 .f32) (r j : Fin 512) (r' : Fin 16384) (j' : Fin 2048)
    (hX : X (ix2 r j) = X' (ix2 r' j')) (hA : ∀ k : Fin 2048, A (ix2 r k) = A' (ix2 r' k))
    (hW : ∀ k : Fin 2048, W (ix3 0 k j) = W' (ix3 0 k j')) :
    k0_pay2 (F := Ideal) A W X (ix2 r j) = val_main_v4 (F := Ideal) A' W' X' (ix2 r' j') :=
  (upd_at A W X r j).trans (sum4 A W X A' W' X' r j r' j' hX hA hW)

/-- A normalised column block is the reference's on those rows and columns, given what the blocks read hold. -/
theorem full (A : FVec Ideal S512x2048 .bf16) (W0 W1 W2 W3 W : FVec Ideal S1x2048x512 .bf16)
    (X0 X1 X2 X3 X : FVec Ideal S512x512 .f32) (g : FVec Ideal S1x512 .f32)
    (A' : FVec Ideal Cert.OutProjRefIdeal.S16384x2048 .bf16) (W' : FVec Ideal Cert.OutProjRefIdeal.S2x2048x2048 .f32)
    (X' : FVec Ideal Cert.OutProjRefIdeal.S16384x2048 .f32) (g' : FVec Ideal Cert.OutProjRefIdeal.S2048 .f32)
    (x : S512x512.Idx) (z : Cert.OutProjRefIdeal.S16384x2048.Idx)
    (hA : ∀ k : Fin 2048, A (ix2 (x 0) k) = A' (ix2 (z 0) k))
    (hX0 : ∀ j : Fin 512, X0 (ix2 (x 0) j) = X' (ix2 (z 0) ⟨j, by omega⟩))
    (hW0 : ∀ (j : Fin 512) (k : Fin 2048), W0 (ix3 0 k j) = W' (ix3 0 k ⟨j, by omega⟩))
    (hX1 : ∀ j : Fin 512, X1 (ix2 (x 0) j) = X' (ix2 (z 0) ⟨512 + j, by omega⟩))
    (hW1 : ∀ (j : Fin 512) (k : Fin 2048), W1 (ix3 0 k j) = W' (ix3 0 k ⟨512 + j, by omega⟩))
    (hX2 : ∀ j : Fin 512, X2 (ix2 (x 0) j) = X' (ix2 (z 0) ⟨1024 + j, by omega⟩))
    (hW2 : ∀ (j : Fin 512) (k : Fin 2048), W2 (ix3 0 k j) = W' (ix3 0 k ⟨1024 + j, by omega⟩))
    (hX3 : ∀ j : Fin 512, X3 (ix2 (x 0) j) = X' (ix2 (z 0) ⟨1536 + j, by omega⟩))
    (hW3 : ∀ (j : Fin 512) (k : Fin 2048), W3 (ix3 0 k j) = W' (ix3 0 k ⟨1536 + j, by omega⟩))
    (hX : X (ix2 (x 0) (x 1)) = X' (ix2 (z 0) (z 1))) (hW : ∀ k : Fin 2048, W (ix3 0 k (x 1)) = W' (ix3 0 k (z 1)))
    (hg : g (ix2 0 (x 1)) = g' (ix1 (z 1))) :
    k0_pay9 (F := Ideal) (k0_pay7 (k0_pay4 A W0 X0 A W1 X1) A W2 X2 A W3 X3) (k0_pay2 (F := Ideal) A W X) g x = val_main_v18 (F := Ideal) A' W' X' g' z :=
  point5 A W0 W1 W2 W3 X0 X1 X2 X3 _ g A' W' X' g' x z
    (fun j => sum4 _ _ _ _ _ _ _ _ _ _ (hX0 j) hA (hW0 j)) (fun j => sum4 _ _ _ _ _ _ _ _ _ _ (hX1 j) hA (hW1 j))
    (fun j => sum4 _ _ _ _ _ _ _ _ _ _ (hX2 j) hA (hW2 j)) (fun j => sum4 _ _ _ _ _ _ _ _ _ _ (hX3 j) hA (hW3 j))
    (point4 _ _ _ _ _ _ _ _ _ _ hX hA hW) hg

/-- The call's updated residual is the reference's. -/
theorem final4 (c : Dev nD) : (dats m 0 c).arrAt 4 (cfgs 0).N
    = val_main_v4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; unfold outsAt0; frame_out
  canon_tiles x h
  all_goals
    generalize hz : (((View.whole main_v2_0).slice (win0_4.rect t)).emb y) = z
    have hz0 : (z 0).val = t.val * 512 + (y 0).val := by subst hz; blk_simp [idx t]
    have hz1 : (z 1).val = (y 1).val := by subst hz; blk_simp [idx t]
    try simp only [upd3, upd5, upd6]
    rw [eq_ix2 x, eq_ix2 z]
    refine point4 _ _ _ _ _ _ _ _ _ _ ?_ (fun k => ?_) (fun k => ?_)
    · pointwise []; rw [eq_ix2 z]; exact b2 m c t _ _ _ _ (by (try dsimp only) <;> omega) (by (try dsimp only) <;> omega)
    · pointwise []; exact b0 m c t _ _ _ (by (try dsimp only) <;> omega)
    · pointwise []; exact b1 m c t _ _ _ (by (try dsimp only) <;> omega)

set_option maxHeartbeats 1000000 in
/-- The call's normalised rows are the reference's. -/
theorem final5 (c : Dev nD) : (dats m 0 c).arrAt 5 (cfgs 0).N
    = val_main_v18 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; unfold outsAt0
  frame_open
  simp (disch := decide) only [↓ View.readCov_skip, ↓ View.readCov_cons_toLoadRect, ↓ View.readCov_fill]
  frame_out
  canon_tiles x h
  all_goals
    generalize hz : (((View.whole main_v2_1).slice (win0_5.rect t)).emb y) = z
    have hz0 : (z 0).val = t.val * 512 + (y 0).val := by subst hz; blk_simp [idx t]
    have hz1 : (z 1).val = (y 1).val := by subst hz; blk_simp [idx t]
    try simp only [upd3, upd5, upd6, nrm10, nrm11, nrm1]
    refine full _ _ _ _ _ _ _ _ _ _ _ _ _ _ _ _ x z (fun k => ?_) (fun j => ?_) (fun j k => ?_) (fun j => ?_) (fun j k => ?_) (fun j => ?_) (fun j k => ?_) (fun j => ?_) (fun j k => ?_) ?_ (fun k => ?_) ?_
    · pointwise []; exact b0 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; rw [eq_ix2 z]; exact b2 m c t _ _ _ _ (by (try dsimp only) <;> omega) (by (try dsimp only) <;> omega)
    · pointwise []; exact b1 m c t _ _ _ (by (try dsimp only) <;> omega)
    · pointwise []; exact b3 m c t _ _ (by (try dsimp only) <;> omega)

end Cert.OutProjIdeal.Hand
end
-- ==== Proof.FfnUpValue.lean ====
module

public import proofs.«01_k».proof.Proof.Gen.FfnUpIdeal.Value
public import proofs.«01_k».proof.Proof.Gen.FfnUpRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUpIdeal.Hand

open Cert.FfnUpIdeal Cert.FfnUpIdeal.Gen
open Cert.FfnUpRefIdeal.Read

variable (m : (ℓ : Loc nD τ sig) → Buf (Elt Ideal) ℓ)

/-- The causal convolution over time of one column, three taps: the column's bias, the present row and the two before it. -/
def conv (u : Fin 2048 → EReal) (w0 w1 w2 b : EReal) (r : Fin 2048) : EReal :=
  b + w2 * u r + w1 * (if h : 1 ≤ r.val then u ⟨r.val - 1, by omega⟩ else 0)
    + w0 * (if h : 2 ≤ r.val then u ⟨r.val - 2, by omega⟩ else 0)

/-- The projected rows, grouped by eight, at an index: the row against the joined gate and value columns. -/
theorem up_at (G V : FVec Ideal S1x2048x256 .f32) (H0 H1 H2 H3 : FVec Ideal S512x2048 .bf16) (f : Fin 2048 → Fin 2048 → EReal)
    (w : Fin 2048 → Fin 512 → EReal) (hG : ∀ k (j : Fin 256), G (ix3 0 k j) = w k ⟨j, by omega⟩)
    (hV : ∀ k (j : Fin 256), V (ix3 0 k j) = w k ⟨256 + j, by omega⟩)
    (h0 : ∀ (r : Fin 512) k, H0 (ix2 r k) = f ⟨r, by omega⟩ k) (h1 : ∀ (r : Fin 512) k, H1 (ix2 r k) = f ⟨512 + r, by omega⟩ k)
    (h2 : ∀ (r : Fin 512) k, H2 (ix2 r k) = f ⟨1024 + r, by omega⟩ k) (h3 : ∀ (r : Fin 512) k, H3 (ix2 r k) = f ⟨1536 + r, by omega⟩ k)
    (a : Fin 256) (b : Fin 8) (j : Fin 512) :
    k0_pay4 (F := Ideal) G V H0 H1 H2 H3 (ix3 a b j) = ∑ k : Fin 2048, f ⟨8 * a + b, by omega⟩ k * w k j := by
  pointwise [k0_pay4]
  simp only [hG, hV, h0, h1, h2, h3]
  have hw : ∀ x, (if h : j.val < 256 then w x ⟨j.val, by omega⟩ else w x ⟨256 + (j.val - 256), by omega⟩) = w x j := by
    intro x
    split
    · rfl
    · exact congrArg (w x) (Fin.ext (by dsimp only; omega))
  simp only [hw]
  repeat' split
  all_goals exact Finset.sum_congr rfl fun k _ => congrArg (· * w k j) (congrArg (f · k) (Fin.ext (by dsimp only; omega)))

/-- The row before, as the body picks it: by rotating within groups of eight, or from the group before, or zero. -/
theorem back1 (u : Fin 2048 → EReal) (r : Fin 2048) (p : _) (q : ¬ r.val / 8 < 1 → _) :
    Scalar.select (IntOp.cmpi CmpIPredicate.sge (BitVec.ofNat 32 (r.val % 8)) 1#32) (u ⟨8 * (r.val / 8) + (r.val % 8 + 8 - 1) % 8, p⟩)
      (if h : r.val / 8 < 1 then 0 else u ⟨8 * (r.val / 8 - 1) + (r.val % 8 + 8 - 1) % 8, q h⟩)
    = if h : 1 ≤ r.val then u ⟨r.val - 1, by omega⟩ else 0 := by
  have hk : ∀ k : Fin 8, IntOp.cmpi CmpIPredicate.sge (BitVec.ofNat 32 k.val) 1#32 = if 1 ≤ k.val then 1#1 else 0#1 := by decide
  have h8 := hk ⟨r.val % 8, Nat.mod_lt _ (by decide)⟩
  dsimp only at h8
  rw [h8]
  by_cases h : 1 ≤ r.val % 8
  · rw [if_pos h, dif_pos (show 1 ≤ r.val by omega)]
    refine Eq.trans (b := u ⟨8 * (r.val / 8) + (r.val % 8 + 8 - 1) % 8, p⟩) rfl ?_
    exact congrArg u (Fin.ext (by dsimp only; omega))
  · rw [if_neg h]
    refine Eq.trans (b := if h : r.val / 8 < 1 then 0 else u ⟨8 * (r.val / 8 - 1) + (r.val % 8 + 8 - 1) % 8, q h⟩) rfl ?_
    repeat' split
    all_goals first | omega | rfl | exact congrArg u (Fin.ext (by dsimp only; omega))

/-- The row two before, picked likewise. -/
theorem back2 (u : Fin 2048 → EReal) (r : Fin 2048) (p : _) (q : ¬ r.val / 8 < 1 → _) :
    Scalar.select (IntOp.cmpi CmpIPredicate.sge (BitVec.ofNat 32 (r.val % 8)) 2#32) (u ⟨8 * (r.val / 8) + (r.val % 8 + 8 - 2) % 8, p⟩)
      (if h : r.val / 8 < 1 then 0 else u ⟨8 * (r.val / 8 - 1) + (r.val % 8 + 8 - 2) % 8, q h⟩)
    = if h : 2 ≤ r.val then u ⟨r.val - 2, by omega⟩ else 0 := by
  have hk : ∀ k : Fin 8, IntOp.cmpi CmpIPredicate.sge (BitVec.ofNat 32 k.val) 2#32 = if 2 ≤ k.val then 1#1 else 0#1 := by decide
  have h8 := hk ⟨r.val % 8, Nat.mod_lt _ (by decide)⟩
  dsimp only at h8
  rw [h8]
  by_cases h : 2 ≤ r.val % 8
  · rw [if_pos h, dif_pos (show 2 ≤ r.val by omega)]
    refine Eq.trans (b := u ⟨8 * (r.val / 8) + (r.val % 8 + 8 - 2) % 8, p⟩) rfl ?_
    exact congrArg u (Fin.ext (by dsimp only; omega))
  · rw [if_neg h]
    refine Eq.trans (b := if h : r.val / 8 < 1 then 0 else u ⟨8 * (r.val / 8 - 1) + (r.val % 8 + 8 - 2) % 8, q h⟩) rfl ?_
    repeat' split
    all_goals first | omega | rfl | exact congrArg u (Fin.ext (by dsimp only; omega))

/-- A row's place from its group and its place in the group. -/
theorem place (u : Fin 2048 → EReal) (r : Fin 2048) (p : _) : u ⟨8 * (r.val / 8) + r.val % 8, p⟩ = u r :=
  congrArg u (Fin.ext (by dsimp only; omega))

/-- One half of the result at an index: the convolved gate column's `silu` times the convolved value column. -/
theorem out_at (T : FVec Ideal S3x512 .f32) (B T2 : FVec Ideal S1x512 .f32) (U : FVec Ideal S256x8x512 .f32) (u : Fin 512 → Fin 2048 → EReal)
    (hU : ∀ (a : Fin 256) (b : Fin 8) j, U (ix3 a b j) = u j ⟨8 * a + b, by omega⟩) (r : Fin 2048) (j : Fin 256) (g v : EReal)
    (hg : conv (u ⟨j, by omega⟩) (T (ix2 0 ⟨j, by omega⟩)) (T (ix2 1 ⟨j, by omega⟩)) (T2 (ix2 0 ⟨j, by omega⟩)) (B (ix2 0 ⟨j, by omega⟩)) r = g)
    (hv : conv (u ⟨256 + j, by omega⟩) (T (ix2 0 ⟨256 + j, by omega⟩)) (T (ix2 1 ⟨256 + j, by omega⟩)) (T2 (ix2 0 ⟨256 + j, by omega⟩)) (B (ix2 0 ⟨256 + j, by omega⟩)) r = v) :
    k0_pay6 (F := Ideal) T B U T2 (ix2 r j) = g * Ideal.logistic g * v := by
  pointwise [k0_pay6]
  simp only [hU, place, back1, back2]
  rw [← hg, ← hv]
  rfl

/-- The second half is made as the first is. -/
theorem half (G V : FVec Ideal S1x2048x256 .f32) (S T : FVec Ideal S1x3x256 .f32) (B C : FVec Ideal S1x1x256 .f32)
    (H0 H1 H2 H3 : FVec Ideal S512x2048 .bf16) :
    k0_pay1 (F := Ideal) (k0_pay8 S T) (k0_pay9 (k0_pay7 G) V H0 H1 H2 H3) (k0_pay10 (k0_pay7 G) V S T B C H0 H1 H2 H3) (k0_pay11 S T)
      (k0_pay12 (k0_pay7 G) V H0 H1 H2 H3)
    = k0_pay6 (k0_pay2 S T) (k0_pay3 B C) (k0_pay4 G V H0 H1 H2 H3) (k0_pay5 S T) := rfl

/-- The zero that fills the rows before the first. -/
theorem fill_at (i : Cert.FfnUpRefIdeal.S_.Idx) : val_main_call0_v0 (F := Ideal) i = 0 := by
  pointwise [val_main_call0_v0, val_main_c]
  simp [FloatOps.sitofp]

/-- The reference's convolved columns at an index: sequence `a`, time `t`. -/
theorem ref32_at (H : FVec Ideal Cert.FfnUpRefIdeal.S16384x2048 .bf16) (W : FVec Ideal Cert.FfnUpRefIdeal.S2x2048x11264 .f32)
    (T : FVec Ideal Cert.FfnUpRefIdeal.S2x3x11264 .f32) (B : FVec Ideal Cert.FfnUpRefIdeal.S2x11264 .f32) (a : Fin 8) (t : Fin 2048) (j : Fin 11264) :
    val_main_v32 (F := Ideal) H W T B (ix3 a t j)
      = conv (fun t => ∑ k : Fin 2048, H (ix2 ⟨a.val * 2048 + t, by omega⟩ k) * W (ix3 0 k j)) (T (ix3 0 0 j)) (T (ix3 0 1 j))
      (T (ix3 0 2 j)) (B (ix2 0 j)) t := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  simp only [fill_at]
  unfold conv
  have h1 : (if h : 2 ≤ 1 + t.val ∧ 1 + t.val - 2 < 2048 then ∑ x, H (ix2 ⟨a.val * 2048 + (1 + t.val - 2), by omega⟩ x) * W (ix3 0 x j) else 0)
      = if h : 1 ≤ t.val then ∑ k, H (ix2 ⟨a.val * 2048 + (t.val - 1), by omega⟩ k) * W (ix3 0 k j) else 0 := by
    repeat' split
    all_goals first | omega | rfl | exact Finset.sum_congr rfl fun k _ => congrArg (· * W (ix3 0 k j)) (congrArg H (congrArg (ix2 · k) (Fin.ext (by dsimp only; omega))))
  have h2 : (if h : 2 ≤ t.val ∧ t.val - 2 < 2048 then ∑ x, H (ix2 ⟨a.val * 2048 + (t.val - 2), by omega⟩ x) * W (ix3 0 x j) else 0)
      = if h : 2 ≤ t.val then ∑ k, H (ix2 ⟨a.val * 2048 + (t.val - 2), by omega⟩ k) * W (ix3 0 k j) else 0 := by
    repeat' split
    all_goals first | omega | rfl
  rw [h1, h2, mul_comm (T (ix3 0 0 j)), mul_comm (T (ix3 0 1 j)), mul_comm (T (ix3 0 2 j)), add_right_comm, add_right_comm (B _), add_right_comm]

/-- The reference at an index. -/
theorem ref_at (H : FVec Ideal Cert.FfnUpRefIdeal.S16384x2048 .bf16) (W : FVec Ideal Cert.FfnUpRefIdeal.S2x2048x11264 .f32)
    (T : FVec Ideal Cert.FfnUpRefIdeal.S2x3x11264 .f32) (B : FVec Ideal Cert.FfnUpRefIdeal.S2x11264 .f32) (r : Fin 16384) (j : Fin 5632) (g v : EReal)
    (hg : val_main_v32 (F := Ideal) H W T B (ix3 ⟨r.val / 2048, by omega⟩ ⟨r.val % 2048, by omega⟩ ⟨j, by omega⟩) = g)
    (hv : val_main_v32 (F := Ideal) H W T B (ix3 ⟨r.val / 2048, by omega⟩ ⟨r.val % 2048, by omega⟩ ⟨5632 + j, by omega⟩) = v) :
    val_main_v38 (F := Ideal) H W T B (ix2 r j) = g * Ideal.logistic g * v := by
  pointwise [val_main_v38, val_main_v37, val_main_v36, val_main_v35, val_main_call1_v5, val_main_call1_v4, val_main_call1_v3, val_main_call1_v2, val_main_call1_v1, val_main_call1_v0, val_main_call1_cst, val_main_call1_cst_0, val_main_v34, val_main_v33]
  simp only [hg, hv, Ideal.logistic, Ideal.ofBits_one_f32]

/-- The joined taps and biases at an index. -/
theorem taps_at (S T : FVec Ideal S1x3x256 .f32) (d : Fin 3) (j : Fin 256) :
    k0_pay2 (F := Ideal) S T (ix2 d ⟨j, by omega⟩) = S (ix3 0 d j) ∧ k0_pay2 (F := Ideal) S T (ix2 d ⟨256 + j, by omega⟩) = T (ix3 0 d j)
    ∧ k0_pay5 (F := Ideal) S T (ix2 0 ⟨j, by omega⟩) = S (ix3 0 2 j) ∧ k0_pay5 (F := Ideal) S T (ix2 0 ⟨256 + j, by omega⟩) = T (ix3 0 2 j) := by
  refine ⟨?_, ?_, ?_, ?_⟩
  all_goals pointwise [k0_pay5, k0_pay2]
/-- The bias row at an index: its two halves are two operands. -/
theorem bias_at (S T : FVec Ideal S1x1x256 .f32) (j : Fin 256) :
    k0_pay3 (F := Ideal) S T (ix2 0 ⟨j, by omega⟩) = S (ix3 0 0 j) ∧ k0_pay3 (F := Ideal) S T (ix2 0 ⟨256 + j, by omega⟩) = T (ix3 0 0 j) := by
  refine ⟨?_, ?_⟩
  all_goals pointwise [k0_pay3]

/-- One half of a block is the reference on its rows and columns, given what the blocks read hold. -/
theorem point (G V : FVec Ideal S1x2048x256 .f32) (S T : FVec Ideal S1x3x256 .f32) (B C : FVec Ideal S1x1x256 .f32)
    (H0 H1 H2 H3 : FVec Ideal S512x2048 .bf16)
    (H' : FVec Ideal Cert.FfnUpRefIdeal.S16384x2048 .bf16) (W' : FVec Ideal Cert.FfnUpRefIdeal.S2x2048x11264 .f32)
    (T' : FVec Ideal Cert.FfnUpRefIdeal.S2x3x11264 .f32) (B' : FVec Ideal Cert.FfnUpRefIdeal.S2x11264 .f32)
    (x : S2048x256.Idx) (r' : Fin 16384) (j' : Fin 5632) (s : Fin 8)
    (h0 : ∀ (r : Fin 512) k, H0 (ix2 r k) = H' (ix2 ⟨s.val * 2048 + r, by omega⟩ k))
    (h1 : ∀ (r : Fin 512) k, H1 (ix2 r k) = H' (ix2 ⟨s.val * 2048 + (512 + r), by omega⟩ k))
    (h2 : ∀ (r : Fin 512) k, H2 (ix2 r k) = H' (ix2 ⟨s.val * 2048 + (1024 + r), by omega⟩ k))
    (h3 : ∀ (r : Fin 512) k, H3 (ix2 r k) = H' (ix2 ⟨s.val * 2048 + (1536 + r), by omega⟩ k))
    (hG : ∀ k : Fin 2048, G (ix3 0 k (x 1)) = W' (ix3 0 k ⟨j', by omega⟩)) (hV : ∀ k : Fin 2048, V (ix3 0 k (x 1)) = W' (ix3 0 k ⟨5632 + j', by omega⟩))
    (hS : ∀ d : Fin 3, S (ix3 0 d (x 1)) = T' (ix3 0 d ⟨j', by omega⟩)) (hT : ∀ d : Fin 3, T (ix3 0 d (x 1)) = T' (ix3 0 d ⟨5632 + j', by omega⟩))
    (hB : B (ix3 0 0 (x 1)) = B' (ix2 0 ⟨j', by omega⟩)) (hC : C (ix3 0 0 (x 1)) = B' (ix2 0 ⟨5632 + j', by omega⟩))
    (hx : r'.val = s.val * 2048 + (x 0).val) :
    k0_pay6 (F := Ideal) (k0_pay2 S T) (k0_pay3 B C) (k0_pay4 G V H0 H1 H2 H3) (k0_pay5 S T) x
      = val_main_v38 (F := Ideal) H' W' T' B' (ix2 r' j') := by
  rw [eq_ix2 x]
  have hx0 : (x 0).val < 2048 := (x 0).isLt
  have hr : (⟨r'.val % 2048, by omega⟩ : Fin 2048) = x 0 := Fin.ext (by dsimp only; omega)
  have hs : ∀ q : ℕ, s.val * 2048 + q = r'.val / 2048 * 2048 + q := fun q => by omega
  refine Eq.trans ?_ (ref_at H' W' T' B' r' j' _ _ rfl rfl).symm
  rw [ref32_at, ref32_at, hr]
  refine out_at _ _ _ _ (fun j t => ∑ k : Fin 2048, H' (ix2 ⟨r'.val / 2048 * 2048 + t, by omega⟩ k)
      * (if h : j.val < 256 then G (ix3 0 k ⟨j, h⟩) else V (ix3 0 k ⟨j.val - 256, by omega⟩)))
    (fun a b j => up_at G V H0 H1 H2 H3 (fun t k => H' (ix2 ⟨r'.val / 2048 * 2048 + t, by omega⟩ k))
      (fun k j => if h : j.val < 256 then G (ix3 0 k ⟨j, h⟩) else V (ix3 0 k ⟨j.val - 256, by omega⟩)) ?_ ?_
      (fun r k => (h0 r k).trans (congrArg H' (congrArg (ix2 · k) (Fin.ext (hs _)))))
      (fun r k => (h1 r k).trans (congrArg H' (congrArg (ix2 · k) (Fin.ext (hs _)))))
      (fun r k => (h2 r k).trans (congrArg H' (congrArg (ix2 · k) (Fin.ext (hs _)))))
      (fun r k => (h3 r k).trans (congrArg H' (congrArg (ix2 · k) (Fin.ext (hs _))))) a b j) (x 0) (x 1) _ _ ?_ ?_
  · intro k j
    rw [dif_pos j.isLt]
  · intro k j
    rw [dif_neg (by simp)]
    exact congrArg V (congrArg (ix3 0 k) (Fin.ext (by dsimp only; omega)))
  · rw [(taps_at S T 0 (x 1)).1, (taps_at S T 1 (x 1)).1, (taps_at S T 0 (x 1)).2.2.1, (bias_at B C (x 1)).1, hS, hS, hS, hB]
    refine congrArg (conv · _ _ _ _ _) (funext fun t => Finset.sum_congr rfl fun k _ => congrArg _ ?_)
    exact (dif_pos (show (x 1).val < 256 from (x 1).isLt)).trans (hG k)
  · rw [(taps_at S T 0 (x 1)).2.1, (taps_at S T 1 (x 1)).2.1, (taps_at S T 0 (x 1)).2.2.2, (bias_at B C (x 1)).2, hT, hT, hT, hC]
    refine congrArg (conv · _ _ _ _ _) (funext fun t => Finset.sum_congr rfl fun k _ => congrArg _ ?_)
    rw [dif_neg (by simp)]
    exact Eq.trans (congrArg V (congrArg (ix3 0 k) (Fin.ext (by dsimp only; omega)))) (hV k)

/-- Which blocks a grid point reads and writes: a sequence's rows, 512 gate columns and the 512 value columns that go with them. -/
theorem idx : ∀ t : Fin cfg0.N, win0_0.index t = ![t.val / 11, 0] ∧ win0_1.index t = ![0, 0, t.val % 11] ∧ win0_2.index t = ![0, 0, 11 + t.val % 11]
    ∧ win0_3.index t = ![0, 0, t.val % 11] ∧ win0_4.index t = ![0, 0, 11 + t.val % 11] ∧ win0_5.index t = ![0, 0, t.val % 11] ∧ win0_6.index t = ![0, 0, 11 + t.val % 11]
    ∧ win0_7.index t = ![t.val / 11, t.val % 11] ∧ t.val < 88 :=
  (by decide +kernel : ∀ t : Fin grid0.N, _)

/-- The biases' operand is the argument with an axis of one added. -/
theorem V0_at (c : Dev nD) (l : Fin 2) (j : Fin 11264) : V m c main_v0 (ix3 l 0 j) = m ((c : Thread nD τ).loc main_arg3) (ix2 l j) := by
  entry_read
  pointwise []

/-- What each window's block holds, entry by entry: the projected rows' operand, the two weight blocks, the taps and the biases. -/
theorem b0 (c : Dev nD) (t : Fin cfg0.N) (r k : Fin 2048) (r' : Fin 16384) (h : r'.val = t.val / 11 * 2048 + r.val) :
    iblk m c 0 t (ix2 r k) = m ((c : Thread nD τ).loc main_arg0) (ix2 r' k) := by
  blk_ext [iblk, V, idx t]
/-- The gate weights' block holds the grid point's 512 columns of the first half of the weights. -/
theorem b1 (c : Dev nD) (t : Fin cfg0.N) (k : Fin 2048) (j : Fin 512) (j' : Fin 11264) (h : j'.val = t.val % 11 * 512 + j.val) :
    iblk m c 1 t (ix3 0 k j) = m ((c : Thread nD τ).loc main_arg1) (ix3 0 k j') := by
  blk_ext [iblk, V, idx t]
/-- The value weights' block holds the same columns of the second half. -/
theorem b2 (c : Dev nD) (t : Fin cfg0.N) (k : Fin 2048) (j : Fin 512) (j' : Fin 11264) (h : j'.val = 5632 + t.val % 11 * 512 + j.val) :
    iblk m c 2 t (ix3 0 k j) = m ((c : Thread nD τ).loc main_arg1) (ix3 0 k j') := by
  blk_ext [iblk, V, idx t]
/-- The gate taps' block holds the grid point's 512 columns of the first half of the taps. -/
theorem b3 (c : Dev nD) (t : Fin cfg0.N) (k : Fin 3) (j : Fin 512) (j' : Fin 11264) (h : j'.val = t.val % 11 * 512 + j.val) :
    iblk m c 3 t (ix3 0 k j) = m ((c : Thread nD τ).loc main_arg2) (ix3 0 k j') := by
  blk_ext [iblk, V, idx t]
/-- The value taps' block holds the same columns of the second half. -/
theorem b4 (c : Dev nD) (t : Fin cfg0.N) (k : Fin 3) (j : Fin 512) (j' : Fin 11264) (h : j'.val = 5632 + t.val % 11 * 512 + j.val) :
    iblk m c 4 t (ix3 0 k j) = m ((c : Thread nD τ).loc main_arg2) (ix3 0 k j') := by
  blk_ext [iblk, V, idx t]
/-- The gate bias's block holds the grid point's 512 entries of the first half of the bias. -/
theorem b5 (c : Dev nD) (t : Fin cfg0.N) (j : Fin 512) (j' : Fin 11264) (h : j'.val = t.val % 11 * 512 + j.val) :
    iblk m c 5 t (ix3 0 0 j) = m ((c : Thread nD τ).loc main_arg3) (ix2 0 j') := by
  rw [← V0_at m c 0]
  blk_ext [iblk, idx t]
/-- The value bias's block holds the same entries of the second half. -/
theorem b6 (c : Dev nD) (t : Fin cfg0.N) (j : Fin 512) (j' : Fin 11264) (h : j'.val = 5632 + t.val % 11 * 512 + j.val) :
    iblk m c 6 t (ix3 0 0 j) = m ((c : Thread nD τ).loc main_arg3) (ix2 0 j') := by
  rw [← V0_at m c 0]
  blk_ext [iblk, idx t]

set_option maxHeartbeats 400000 in
/-- The call's result is the reference's. -/
theorem final (c : Dev nD) : (dats m 0 c).arrAt 7 (cfgs 0).N
    = val_main_v38 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  canon_tiles x h
  all_goals
    try rw [half]
    generalize hz : (((View.whole main_v1).slice (win0_7.rect t)).emb y) = z
    have hz0 : (z 0).val = t.val / 11 * 2048 + (y 0).val := by subst hz; blk_simp [idx t]
    have hz1 : (z 1).val = t.val % 11 * 512 + (y 1).val := by subst hz; blk_simp [idx t]
    rw [eq_ix2 z]
    refine point _ _ _ _ _ _ _ _ _ _ _ _ _ _ x _ _ ⟨t.val / 11, by have := (idx t).2.2.2.2.2.2.2.2; omega⟩ (fun r k => ?_) (fun r k => ?_) (fun r k => ?_) (fun r k => ?_)
      (fun k => ?_) (fun k => ?_) (fun k => ?_) (fun k => ?_) ?_ ?_ ?_
    · pointwise []; exact b0 m c t _ _ _ (by (try dsimp only) <;> omega)
    · pointwise []; exact b0 m c t _ _ _ (by (try dsimp only) <;> omega)
    · pointwise []; exact b0 m c t _ _ _ (by (try dsimp only) <;> omega)
    · pointwise []; exact b0 m c t _ _ _ (by (try dsimp only) <;> omega)
    · pointwise []; exact b1 m c t _ _ _ (by (try dsimp only) <;> omega)
    · pointwise []; exact b2 m c t _ _ _ (by (try dsimp only) <;> omega)
    · pointwise []; exact b3 m c t _ _ _ (by (try dsimp only) <;> omega)
    · pointwise []; exact b4 m c t _ _ _ (by (try dsimp only) <;> omega)
    · pointwise []; exact b5 m c t _ _ (by (try dsimp only) <;> omega)
    · pointwise []; exact b6 m c t _ _ (by (try dsimp only) <;> omega)
    · rw [hz0, h0]

end Cert.FfnUpIdeal.Hand
end
-- ==== Proof.FfnDownValue.lean ====
module

public import proofs.«01_k».proof.Proof.Gen.FfnDownIdeal.Value
public import proofs.«01_k».proof.Proof.Gen.FfnDownRefIdeal.Read
public import Idealize.ShloMosaic.Lib.Pipeline.ValueKit
public import Idealize.ShloMosaic.Lib.Pipeline.ReadBack
public import Idealize.ShloMosaic.Lib.Pointwise
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownIdeal.Hand

open Cert.FfnDownIdeal Cert.FfnDownIdeal.Gen
open Cert.FfnDownRefIdeal.Read

variable (m : (ℓ : Loc nD τ sig) → Buf (Elt Ideal) ℓ)

/-- One column block of the updated residual at an index. -/
theorem upd_at (A : FVec Ideal S512x5632 .bf16) (W : FVec Ideal S1x5632x512 .bf16) (X : FVec Ideal S512x512 .f32)
    (r : Fin 512) (j : Fin 512) : k0_pay2 (F := Ideal) X A W (ix2 r j)
    = X (ix2 r j) + ∑ k : Fin 5632, A (ix2 r k) * W (ix3 0 k j) := by
  pointwise [k0_pay2]

/-- The second column block is updated as the first is. -/
theorem upd3 (A : FVec Ideal S512x5632 .bf16) (W : FVec Ideal S1x5632x512 .bf16) (X : FVec Ideal S512x512 .f32) : k0_pay3 (F := Ideal) X A W = k0_pay2 X A W := rfl
/-- The third column block is updated as the first is. -/
theorem upd5 (A : FVec Ideal S512x5632 .bf16) (W : FVec Ideal S1x5632x512 .bf16) (X : FVec Ideal S512x512 .f32) : k0_pay5 (F := Ideal) X A W = k0_pay2 X A W := rfl
/-- The fourth column block is updated as the first is. -/
theorem upd6 (A : FVec Ideal S512x5632 .bf16) (W : FVec Ideal S1x5632x512 .bf16) (X : FVec Ideal S512x512 .f32) : k0_pay6 (F := Ideal) X A W = k0_pay2 X A W := rfl
/-- The four column blocks are normalised alike. -/
theorem nrm10 (S : FVec Ideal S512x1 .f32) (Y : FVec Ideal S512x512 .f32) (g : FVec Ideal S1x512 .f32) :
    k0_pay10 (F := Ideal) S Y g = k0_pay9 S Y g := rfl
/-- The third column block is normalised as the first is. -/
theorem nrm11 (S : FVec Ideal S512x1 .f32) (Y : FVec Ideal S512x512 .f32) (g : FVec Ideal S1x512 .f32) :
    k0_pay11 (F := Ideal) S Y g = k0_pay9 S Y g := rfl
/-- The fourth column block is normalised as the first is. -/
theorem nrm1 (S : FVec Ideal S512x1 .f32) (Y : FVec Ideal S512x512 .f32) (g : FVec Ideal S1x512 .f32) :
    k0_pay1 (F := Ideal) (k0_pay12 S Y) g = k0_pay9 S Y g := rfl

/-- A row's mean square, plus the constant, as the body adds it up from its four column blocks. -/
theorem ss_at (A : FVec Ideal S512x5632 .bf16) (W0 W1 W2 W3 : FVec Ideal S1x5632x512 .bf16)
    (X0 X1 X2 X3 : FVec Ideal S512x512 .f32) (r : Fin 512) (f : Fin 2048 → EReal)
    (h0 : ∀ j : Fin 512, X0 (ix2 r j) + ∑ k : Fin 5632, A (ix2 r k) * W0 (ix3 0 k j) = f ⟨j, by omega⟩)
    (h1 : ∀ j : Fin 512, X1 (ix2 r j) + ∑ k : Fin 5632, A (ix2 r k) * W1 (ix3 0 k j) = f ⟨512 + j, by omega⟩)
    (h2 : ∀ j : Fin 512, X2 (ix2 r j) + ∑ k : Fin 5632, A (ix2 r k) * W2 (ix3 0 k j) = f ⟨1024 + j, by omega⟩)
    (h3 : ∀ j : Fin 512, X3 (ix2 r j) + ∑ k : Fin 5632, A (ix2 r k) * W3 (ix3 0 k j) = f ⟨1536 + j, by omega⟩) :
    k0_pay7 (F := Ideal) (k0_pay4 X0 A W0 X1 A W1) X2 A W2 X3 A W3 (ix2 r 0)
      = (∑ k : Fin 2048, f k * f k) * Ideal.ofBits .f32 0x3A000000#32 + Ideal.ofBits .f32 0x358637BD#32 := by
  rw [← Rows.lanes]
  pointwise [k0_pay7, k0_pay4, k0_pay2, k0_pay3, k0_pay5, k0_pay6]
  simp only [h0, h1, h2, h3]

/-- The first normalised column block at an index. -/
theorem nrm_at (S : FVec Ideal S512x1 .f32) (Y : FVec Ideal S512x512 .f32) (g : FVec Ideal S1x512 .f32)
    (r : Fin 512) (j : Fin 512) : k0_pay9 (F := Ideal) S Y g (ix2 r j)
    = Y (ix2 r j) * Ideal.rsqrt (S (ix2 r 0)) * g (ix2 0 j) := by
  pointwise [k0_pay9, k0_pay8]

/-- The reference's updated residual at an index. -/
theorem ref4_at (A : FVec Ideal Cert.FfnDownRefIdeal.S16384x5632 .bf16) (W : FVec Ideal Cert.FfnDownRefIdeal.S2x5632x2048 .f32)
    (X : FVec Ideal Cert.FfnDownRefIdeal.S16384x2048 .f32) (r : Fin 16384) (j : Fin 2048) :
    val_main_v4 (F := Ideal) A W X (ix2 r j) = X (ix2 r j) + ∑ k : Fin 5632, A (ix2 r k) * W (ix3 0 k j) := by
  pointwise [val_main_v4, val_main_v3, val_main_v2, val_main_v1, val_main_v0]

/-- The reference's normalised row at an index, over the updated residual. -/
theorem ref18_at (A : FVec Ideal Cert.FfnDownRefIdeal.S16384x5632 .bf16) (W : FVec Ideal Cert.FfnDownRefIdeal.S2x5632x2048 .f32)
    (X : FVec Ideal Cert.FfnDownRefIdeal.S16384x2048 .f32) (g : FVec Ideal Cert.FfnDownRefIdeal.S2048 .f32)
    (f : Fin 16384 → Fin 2048 → EReal) (hf : ∀ r j, val_main_v4 (F := Ideal) A W X (ix2 r j) = f r j) (r : Fin 16384) (j : Fin 2048) :
    val_main_v18 (F := Ideal) A W X g (ix2 r j) = f r j * Ideal.rsqrt ((∑ k : Fin 2048, f r k * f r k)
      * Ideal.ofBits .f32 0x3A000000#32 + Ideal.ofBits .f32 0x358637BD#32) * g (ix1 j) := by
  rw [← Rows.mean]
  pointwise [val_main_v18, val_main_v17, val_main_v16, val_main_v15, val_main_v14, val_main_v13, val_main_v12, val_main_v11, val_main_v10, val_main_v9, val_main_v8, val_main_v7, val_main_v6, val_main_v5, val_main_cst, val_main_cst_0, val_main_cst_1]
  simp only [hf]

/-- Which blocks a grid point reads and writes: its own 512 rows, the whole weights and gain. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ t.val < 32 :=
  (by decide +kernel : ∀ t : Fin grid0.N, _)

/-- The gain's operand is the argument as one row. -/
theorem V1_at (c : Dev nD) (k : Fin 2048) : V m c main_v1 (ix2 0 k) = m ((c : Thread nD τ).loc main_arg3) (ix1 k) := by
  entry_read
  pointwise []

/-- The rows' block holds the grid point's own 512 rows. -/
theorem b0 (c : Dev nD) (t : Fin cfg0.N) (r : Fin 512) (k : Fin 5632) (r' : Fin 16384) (h : r'.val = t.val * 512 + r.val) :
    iblk m c 0 t (ix2 r k) = m ((c : Thread nD τ).loc main_arg0) (ix2 r' k) := by
  blk_ext [iblk, V, idx t]
/-- The weights' block holds the first layer's whole weight matrix. -/
theorem b1 (c : Dev nD) (t : Fin cfg0.N) (k : Fin 5632) (j j' : Fin 2048) (h : j'.val = j.val) :
    iblk m c 1 t (ix3 0 k j) = m ((c : Thread nD τ).loc main_arg1) (ix3 0 k j') := by
  blk_point [iblk, V, idx t]
/-- The residual's block holds the grid point's own 512 rows of the residual. -/
theorem b2 (c : Dev nD) (t : Fin cfg0.N) (r : Fin 512) (j : Fin 2048) (r' : Fin 16384) (j' : Fin 2048) (h : r'.val = t.val * 512 + r.val)
    (h' : j'.val = j.val) : iblk m c 2 t (ix2 r j) = m ((c : Thread nD τ).loc main_arg2) (ix2 r' j') := by
  blk_ext [iblk, V, idx t]
/-- The gain's block holds the gain. -/
theorem b3 (c : Dev nD) (t : Fin cfg0.N) (j j' : Fin 2048) (h : j'.val = j.val) :
    iblk m c 3 t (ix2 0 j) = m ((c : Thread nD τ).loc main_arg3) (ix1 j') := by
  rw [← V1_at m c]
  blk_ext [iblk, idx t]

/-- A normalised column block is the reference's on those rows and columns, given what the four blocks of the updated residual hold. -/
theorem point5 (A : FVec Ideal S512x5632 .bf16) (W0 W1 W2 W3 : FVec Ideal S1x5632x512 .bf16)
    (X0 X1 X2 X3 Y : FVec Ideal S512x512 .f32) (g : FVec Ideal S1x512 .f32)
    (A' : FVec Ideal Cert.FfnDownRefIdeal.S16384x5632 .bf16) (W' : FVec Ideal Cert.FfnDownRefIdeal.S2x5632x2048 .f32)
    (X' : FVec Ideal Cert.FfnDownRefIdeal.S16384x2048 .f32) (g' : FVec Ideal Cert.FfnDownRefIdeal.S2048 .f32)
    (x : S512x512.Idx) (z : Cert.FfnDownRefIdeal.S16384x2048.Idx)
    (h0 : ∀ j : Fin 512, X0 (ix2 (x 0) j) + ∑ k : Fin 5632, A (ix2 (x 0) k) * W0 (ix3 0 k j)
      = val_main_v4 (F := Ideal) A' W' X' (ix2 (z 0) ⟨j, by omega⟩))
    (h1 : ∀ j : Fin 512, X1 (ix2 (x 0) j) + ∑ k : Fin 5632, A (ix2 (x 0) k) * W1 (ix3 0 k j)
      = val_main_v4 (F := Ideal) A' W' X' (ix2 (z 0) ⟨512 + j, by omega⟩))
    (h2 : ∀ j : Fin 512, X2 (ix2 (x 0) j) + ∑ k : Fin 5632, A (ix2 (x 0) k) * W2 (ix3 0 k j)
      = val_main_v4 (F := Ideal) A' W' X' (ix2 (z 0) ⟨1024 + j, by omega⟩))
    (h3 : ∀ j : Fin 512, X3 (ix2 (x 0) j) + ∑ k : Fin 5632, A (ix2 (x 0) k) * W3 (ix3 0 k j)
      = val_main_v4 (F := Ideal) A' W' X' (ix2 (z 0) ⟨1536 + j, by omega⟩))
    (hY : Y (ix2 (x 0) (x 1)) = val_main_v4 (F := Ideal) A' W' X' (ix2 (z 0) (z 1)))
    (hg : g (ix2 0 (x 1)) = g' (ix1 (z 1))) :
    k0_pay9 (F := Ideal) (k0_pay7 (k0_pay4 X0 A W0 X1 A W1) X2 A W2 X3 A W3) Y g x = val_main_v18 (F := Ideal) A' W' X' g' z := by
  rw [eq_ix2 x, eq_ix2 z]
  refine (nrm_at _ Y g (x 0) (x 1)).trans (Eq.trans ?_ (ref18_at A' W' X' g' _ (fun _ _ => rfl) (z 0) (z 1)).symm)
  exact Ideal.mul_congr (Ideal.mul_congr hY (congrArg Ideal.rsqrt
    (ss_at A W0 W1 W2 W3 X0 X1 X2 X3 (x 0) (fun k => val_main_v4 (F := Ideal) A' W' X' (ix2 (z 0) k)) h0 h1 h2 h3))) hg

/-- A residual entry plus its row times its column is the reference's, given what the blocks read hold. -/
theorem sum4 (A : FVec Ideal S512x5632 .bf16) (W : FVec Ideal S1x5632x512 .bf16) (X : FVec Ideal S512x512 .f32)
    (A' : FVec Ideal Cert.FfnDownRefIdeal.S16384x5632 .bf16) (W' : FVec Ideal Cert.FfnDownRefIdeal.S2x5632x2048 .f32)
    (X' : FVec Ideal Cert.FfnDownRefIdeal.S16384x2048 .f32) (r j : Fin 512) (r' : Fin 16384) (j' : Fin 2048)
    (hX : X (ix2 r j) = X' (ix2 r' j')) (hA : ∀ k : Fin 5632, A (ix2 r k) = A' (ix2 r' k))
    (hW : ∀ k : Fin 5632, W (ix3 0 k j) = W' (ix3 0 k j')) :
    X (ix2 r j) + ∑ k : Fin 5632, A (ix2 r k) * W (ix3 0 k j) = val_main_v4 (F := Ideal) A' W' X' (ix2 r' j') := by
  refine Eq.trans ?_ (ref4_at A' W' X' r' j').symm
  simp only [hX, hA, hW]

/-- A column block of the updated residual is the reference's, given what the blocks read hold. -/
theorem point4 (A : FVec Ideal S512x5632 .bf16) (W : FVec Ideal S1x5632x512 .bf16) (X : FVec Ideal S512x512 .f32)
    (A' : FVec Ideal Cert.FfnDownRefIdeal.S16384x5632 .bf16) (W' : FVec Ideal Cert.FfnDownRefIdeal.S2x5632x2048 .f32)
    (X' : FVec Ideal Cert.FfnDownRefIdeal.S16384x2048 .f32) (r j : Fin 512) (r' : Fin 16384) (j' : Fin 2048)
    (hX : X (ix2 r j) = X' (ix2 r' j')) (hA : ∀ k : Fin 5632, A (ix2 r k) = A' (ix2 r' k))
    (hW : ∀ k : Fin 5632, W (ix3 0 k j) = W' (ix3 0 k j')) :
    k0_pay2 (F := Ideal) X A W (ix2 r j) = val_main_v4 (F := Ideal) A' W' X' (ix2 r' j') :=
  (upd_at A W X r j).trans (sum4 A W X A' W' X' r j r' j' hX hA hW)

/-- A normalised column block is the reference's on those rows and columns, given what the blocks read hold. -/
theorem full (A : FVec Ideal S512x5632 .bf16) (W0 W1 W2 W3 W : FVec Ideal S1x5632x512 .bf16)
    (X0 X1 X2 X3 X : FVec Ideal S512x512 .f32) (g : FVec Ideal S1x512 .f32)
    (A' : FVec Ideal Cert.FfnDownRefIdeal.S16384x5632 .bf16) (W' : FVec Ideal Cert.FfnDownRefIdeal.S2x5632x2048 .f32)
    (X' : FVec Ideal Cert.FfnDownRefIdeal.S16384x2048 .f32) (g' : FVec Ideal Cert.FfnDownRefIdeal.S2048 .f32)
    (x : S512x512.Idx) (z : Cert.FfnDownRefIdeal.S16384x2048.Idx)
    (hA : ∀ k : Fin 5632, A (ix2 (x 0) k) = A' (ix2 (z 0) k))
    (hX0 : ∀ j : Fin 512, X0 (ix2 (x 0) j) = X' (ix2 (z 0) ⟨j, by omega⟩))
    (hW0 : ∀ (j : Fin 512) (k : Fin 5632), W0 (ix3 0 k j) = W' (ix3 0 k ⟨j, by omega⟩))
    (hX1 : ∀ j : Fin 512, X1 (ix2 (x 0) j) = X' (ix2 (z 0) ⟨512 + j, by omega⟩))
    (hW1 : ∀ (j : Fin 512) (k : Fin 5632), W1 (ix3 0 k j) = W' (ix3 0 k ⟨512 + j, by omega⟩))
    (hX2 : ∀ j : Fin 512, X2 (ix2 (x 0) j) = X' (ix2 (z 0) ⟨1024 + j, by omega⟩))
    (hW2 : ∀ (j : Fin 512) (k : Fin 5632), W2 (ix3 0 k j) = W' (ix3 0 k ⟨1024 + j, by omega⟩))
    (hX3 : ∀ j : Fin 512, X3 (ix2 (x 0) j) = X' (ix2 (z 0) ⟨1536 + j, by omega⟩))
    (hW3 : ∀ (j : Fin 512) (k : Fin 5632), W3 (ix3 0 k j) = W' (ix3 0 k ⟨1536 + j, by omega⟩))
    (hX : X (ix2 (x 0) (x 1)) = X' (ix2 (z 0) (z 1))) (hW : ∀ k : Fin 5632, W (ix3 0 k (x 1)) = W' (ix3 0 k (z 1)))
    (hg : g (ix2 0 (x 1)) = g' (ix1 (z 1))) :
    k0_pay9 (F := Ideal) (k0_pay7 (k0_pay4 X0 A W0 X1 A W1) X2 A W2 X3 A W3) (k0_pay2 (F := Ideal) X A W) g x = val_main_v18 (F := Ideal) A' W' X' g' z :=
  point5 A W0 W1 W2 W3 X0 X1 X2 X3 _ g A' W' X' g' x z
    (fun j => sum4 _ _ _ _ _ _ _ _ _ _ (hX0 j) hA (hW0 j)) (fun j => sum4 _ _ _ _ _ _ _ _ _ _ (hX1 j) hA (hW1 j))
    (fun j => sum4 _ _ _ _ _ _ _ _ _ _ (hX2 j) hA (hW2 j)) (fun j => sum4 _ _ _ _ _ _ _ _ _ _ (hX3 j) hA (hW3 j))
    (point4 _ _ _ _ _ _ _ _ _ _ hX hA hW) hg

/-- The call's updated residual is the reference's. -/
theorem final4 (c : Dev nD) : (dats m 0 c).arrAt 4 (cfgs 0).N
    = val_main_v4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; unfold outsAt0; frame_out
  canon_tiles x h
  all_goals
    generalize hz : (((View.whole main_v2_0).slice (win0_4.rect t)).emb y) = z
    have hz0 : (z 0).val = t.val * 512 + (y 0).val := by subst hz; blk_simp [idx t]
    have hz1 : (z 1).val = (y 1).val := by subst hz; blk_simp [idx t]
    try simp only [upd3, upd5, upd6]
    rw [eq_ix2 x, eq_ix2 z]
    refine point4 _ _ _ _ _ _ _ _ _ _ ?_ (fun k => ?_) (fun k => ?_)
    · pointwise []; rw [eq_ix2 z]; exact b2 m c t _ _ _ _ (by (try dsimp only) <;> omega) (by (try dsimp only) <;> omega)
    · pointwise []; exact b0 m c t _ _ _ (by (try dsimp only) <;> omega)
    · pointwise []; exact b1 m c t _ _ _ (by (try dsimp only) <;> omega)

set_option maxHeartbeats 1000000 in
/-- The call's normalised rows are the reference's. -/
theorem final5 (c : Dev nD) : (dats m 0 c).arrAt 5 (cfgs 0).N
    = val_main_v18 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; unfold outsAt0
  frame_open
  simp (disch := decide) only [↓ View.readCov_skip, ↓ View.readCov_cons_toLoadRect, ↓ View.readCov_fill]
  frame_out
  canon_tiles x h
  all_goals
    generalize hz : (((View.whole main_v2_1).slice (win0_5.rect t)).emb y) = z
    have hz0 : (z 0).val = t.val * 512 + (y 0).val := by subst hz; blk_simp [idx t]
    have hz1 : (z 1).val = (y 1).val := by subst hz; blk_simp [idx t]
    try simp only [upd3, upd5, upd6, nrm10, nrm11, nrm1]
    refine full _ _ _ _ _ _ _ _ _ _ _ _ _ _ _ _ x z (fun k => ?_) (fun j => ?_) (fun j k => ?_) (fun j => ?_) (fun j k => ?_) (fun j => ?_) (fun j k => ?_) (fun j => ?_) (fun j k => ?_) ?_ (fun k => ?_) ?_
    · pointwise []; exact b0 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; rw [eq_ix2 z]; exact b2 m c t _ _ _ _ (by (try dsimp only) <;> omega) (by (try dsimp only) <;> omega)
    · pointwise []; exact b1 m c t _ _ _ (by (try dsimp only) <;> omega)
    · pointwise []; exact b3 m c t _ _ (by (try dsimp only) <;> omega)

end Cert.FfnDownIdeal.Hand
end
-- ==== Proof.PleValue.lean ====
module

public import proofs.«01_k».proof.Proof.Gen.PleIdeal.Value
public import proofs.«01_k».proof.Proof.Gen.PleRefIdeal.Read
public import Idealize.ShloMosaic.Lib.Pipeline.ValueKit
public import Idealize.ShloMosaic.Lib.Pipeline.ReadBack
public import Idealize.ShloMosaic.Lib.Pointwise
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleIdeal.Hand

open Cert.PleIdeal Cert.PleIdeal.Gen
open Cert.PleRefIdeal.Read

variable (m : (ℓ : Loc nD τ sig) → Buf (Elt Ideal) ℓ)

/-- One column block of the updated residual at an index: the row's gate times the row's projection, added on. -/
theorem upd_at (p : FVec Ideal S1x512x256 .f32) (A : FVec Ideal S512x2048 .bf16) (W : FVec Ideal S1x2048x512 .bf16)
    (Q : FVec Ideal S1x256x512 .bf16) (X : FVec Ideal S512x512 .f32) (r : Fin 512) (j : Fin 512) :
    k0_pay5 (F := Ideal) p A W Q X (ix2 r j) = X (ix2 r j)
      + Ideal.logistic (∑ k : Fin 2048, A (ix2 r k) * W (ix3 0 k j)) * ∑ k : Fin 256, p (ix3 0 r k) * Q (ix3 0 k j) := by
  pointwise [k0_pay5, k0_pay4]

/-- The second column block is updated as the first is. -/
theorem upd8 (p : FVec Ideal S1x512x256 .f32) (A : FVec Ideal S512x2048 .bf16) (W : FVec Ideal S1x2048x512 .bf16)
    (Q : FVec Ideal S1x256x512 .bf16) (X : FVec Ideal S512x512 .f32) :
    k0_pay8 (F := Ideal) (k0_pay4 p) (k0_pay7 A W) Q X = k0_pay5 p A W Q X := rfl
/-- The third column block is updated as the first is. -/
theorem upd9 (p : FVec Ideal S1x512x256 .f32) (A : FVec Ideal S512x2048 .bf16) (W : FVec Ideal S1x2048x512 .bf16)
    (Q : FVec Ideal S1x256x512 .bf16) (X : FVec Ideal S512x512 .f32) :
    k0_pay9 (F := Ideal) (k0_pay4 p) A W Q X = k0_pay5 p A W Q X := rfl
/-- The fourth column block is updated as the first is. -/
theorem upd11 (p : FVec Ideal S1x512x256 .f32) (A : FVec Ideal S512x2048 .bf16) (W : FVec Ideal S1x2048x512 .bf16)
    (Q : FVec Ideal S1x256x512 .bf16) (X : FVec Ideal S512x512 .f32) :
    k0_pay11 (F := Ideal) (k0_pay4 p) A W Q X = k0_pay5 p A W Q X := rfl
/-- The four column blocks are normalised alike. -/
theorem nrm2 (S : FVec Ideal S512x1 .f32) (Y : FVec Ideal S512x512 .f32) (g : FVec Ideal S1x512 .f32) :
    k0_pay2 (F := Ideal) S Y g = k0_pay1 S Y g := rfl
/-- The third column block is normalised as the first is. -/
theorem nrm3 (S : FVec Ideal S512x1 .f32) (Y : FVec Ideal S512x512 .f32) (g : FVec Ideal S1x512 .f32) :
    k0_pay3 (F := Ideal) S Y g = k0_pay1 S Y g := rfl
/-- The fourth column block, its mean square still to be added up, is normalised as the first is. -/
theorem nrm13 (P : FVec Ideal S512x256 .bf16) (S : FVec Ideal S512x128 .f32) (A : FVec Ideal S512x2048 .bf16)
    (W : FVec Ideal S1x2048x512 .bf16) (Q : FVec Ideal S1x256x512 .bf16) (X Y : FVec Ideal S512x512 .f32) (g : FVec Ideal S1x512 .f32) :
    k0_pay13 (F := Ideal) P S A W Q X Y g = k0_pay1 (k0_pay12 P S A W Q X) Y g := rfl

/-- A row's inverse root mean square as the body adds it up from its four column blocks. -/
theorem ss_at (p : FVec Ideal S1x512x256 .f32) (A : FVec Ideal S512x2048 .bf16) (W0 W1 W2 W3 : FVec Ideal S1x2048x512 .bf16)
    (Q0 Q1 Q2 Q3 : FVec Ideal S1x256x512 .bf16) (X0 X1 X2 X3 : FVec Ideal S512x512 .f32) (r : Fin 512) (f : Fin 2048 → EReal)
    (h0 : ∀ j : Fin 512, k0_pay5 (F := Ideal) p A W0 Q0 X0 (ix2 r j) = f ⟨j, by omega⟩)
    (h1 : ∀ j : Fin 512, k0_pay5 (F := Ideal) p A W1 Q1 X1 (ix2 r j) = f ⟨512 + j, by omega⟩)
    (h2 : ∀ j : Fin 512, k0_pay5 (F := Ideal) p A W2 Q2 X2 (ix2 r j) = f ⟨1024 + j, by omega⟩)
    (h3 : ∀ j : Fin 512, k0_pay5 (F := Ideal) p A W3 Q3 X3 (ix2 r j) = f ⟨1536 + j, by omega⟩) :
    k0_pay12 (F := Ideal) (k0_pay4 p) (k0_pay10 (k0_pay4 p) (k0_pay6 p A W0 Q0 X0) (k0_pay7 A W1) Q1 X1 A W2 Q2 X2)
        A W3 Q3 X3 (ix2 r 0)
      = Ideal.rsqrt ((∑ k : Fin 2048, f k * f k) * Ideal.ofBits .f32 0x3A000000#32 + Ideal.ofBits .f32 0x358637BD#32) := by
  rw [← Rows.lanes]
  change ∀ j : Fin 512, k0_pay8 (F := Ideal) (k0_pay4 p) (k0_pay7 A W1) Q1 X1 (ix2 r j) = _ at h1
  change ∀ j : Fin 512, k0_pay9 (F := Ideal) (k0_pay4 p) A W2 Q2 X2 (ix2 r j) = _ at h2
  change ∀ j : Fin 512, k0_pay11 (F := Ideal) (k0_pay4 p) A W3 Q3 X3 (ix2 r j) = _ at h3
  pointwise [k0_pay12, k0_pay10, k0_pay6]
  simp only [h0, h1, h2, h3]

/-- The first normalised column block at an index. -/
theorem nrm_at (S : FVec Ideal S512x1 .f32) (Y : FVec Ideal S512x512 .f32) (g : FVec Ideal S1x512 .f32)
    (r : Fin 512) (j : Fin 512) : k0_pay1 (F := Ideal) S Y g (ix2 r j)
    = Y (ix2 r j) * S (ix2 r 0) * g (ix2 0 j) := by
  pointwise [k0_pay1]

/-- The reference's updated residual at an index. -/
theorem ref17_at (A : FVec Ideal Cert.PleRefIdeal.S16384x2048 .bf16) (W : FVec Ideal Cert.PleRefIdeal.S2x2048x2048 .f32)
    (X : FVec Ideal Cert.PleRefIdeal.S16384x2048 .f32) (p : FVec Ideal Cert.PleRefIdeal.S2x8x2048x256 .f32)
    (Q : FVec Ideal Cert.PleRefIdeal.S2x256x2048 .f32) (r : Fin 16384) (j : Fin 2048) :
    val_main_v17 (F := Ideal) A W X p Q (ix2 r j) = X (ix2 r j)
      + Ideal.logistic (∑ k : Fin 2048, A (ix2 r k) * W (ix3 0 k j))
        * ∑ k : Fin 256, p (ix4 0 ⟨r / 2048, by omega⟩ ⟨r % 2048, by omega⟩ k) * Q (ix3 0 k j) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  simp only [Ideal.logistic, Ideal.ofBits_one_f32]

/-- The reference's normalised row at an index, over the updated residual. -/
theorem ref31_at (A : FVec Ideal Cert.PleRefIdeal.S16384x2048 .bf16) (W : FVec Ideal Cert.PleRefIdeal.S2x2048x2048 .f32)
    (X : FVec Ideal Cert.PleRefIdeal.S16384x2048 .f32) (g : FVec Ideal Cert.PleRefIdeal.S2048 .f32)
    (p : FVec Ideal Cert.PleRefIdeal.S2x8x2048x256 .f32) (Q : FVec Ideal Cert.PleRefIdeal.S2x256x2048 .f32)
    (f : Fin 16384 → Fin 2048 → EReal) (hf : ∀ r j, val_main_v17 (F := Ideal) A W X p Q (ix2 r j) = f r j) (r : Fin 16384) (j : Fin 2048) :
    val_main_v31 (F := Ideal) A W X g p Q (ix2 r j) = f r j * Ideal.rsqrt ((∑ k : Fin 2048, f r k * f r k)
      * Ideal.ofBits .f32 0x3A000000#32 + Ideal.ofBits .f32 0x358637BD#32) * g (ix1 j) := by
  rw [← Rows.mean]
  pointwise [val_main_v31, val_main_v30, val_main_v29, val_main_v28, val_main_v27, val_main_v26, val_main_v25, val_main_v24, val_main_v23, val_main_v22, val_main_v21, val_main_v20, val_main_v19, val_main_v18, val_main_cst_1, val_main_cst_2, val_main_cst_3]
  simp only [hf]

/-- Which blocks a grid point reads and writes: its own 512 rows, the whole weights and gain. -/
theorem idx : ∀ t : Fin cfg0.N, win0_0.index t = ![t.val, 0] ∧ win0_1.index t = ![0, 0, 0] ∧ win0_2.index t = ![t.val, 0]
    ∧ win0_3.index t = ![0, 0] ∧ win0_4.index t = ![0, t.val, 0] ∧ win0_5.index t = ![0, 0, 0] ∧ win0_6.index t = ![t.val, 0]
    ∧ win0_7.index t = ![t.val, 0] ∧ t.val < 32 :=
  (by decide +kernel : ∀ t : Fin grid0.N, _)

/-- The per-layer inputs' operand is the argument with its two row axes joined. -/
theorem V2_at (c : Dev nD) (l : Fin 2) (r : Fin 16384) (k : Fin 256) : V m c main_v2 (ix3 l r k)
    = m ((c : Thread nD τ).loc main_arg4) (ix4 l ⟨r / 2048, by omega⟩ ⟨r % 2048, by omega⟩ k) := by
  entry_read
  pointwise []

/-- The gain's operand is the argument as one row. -/
theorem V1_at (c : Dev nD) (k : Fin 2048) : V m c main_v1 (ix2 0 k) = m ((c : Thread nD τ).loc main_arg3) (ix1 k) := by
  entry_read
  pointwise []

/-- The rows' block holds the grid point's own 512 rows. -/
theorem b0 (c : Dev nD) (t : Fin cfg0.N) (r : Fin 512) (k : Fin 2048) (r' : Fin 16384) (h : r'.val = t.val * 512 + r.val) :
    iblk m c 0 t (ix2 r k) = m ((c : Thread nD τ).loc main_arg0) (ix2 r' k) := by
  blk_ext [iblk, V, idx t]
/-- The weights' block holds the first layer's whole weight matrix. -/
theorem b1 (c : Dev nD) (t : Fin cfg0.N) (k : Fin 2048) (j j' : Fin 2048) (h : j'.val = j.val) :
    iblk m c 1 t (ix3 0 k j) = m ((c : Thread nD τ).loc main_arg1) (ix3 0 k j') := by
  blk_point [iblk, V, idx t]
/-- The residual's block holds the grid point's own 512 rows of the residual. -/
theorem b2 (c : Dev nD) (t : Fin cfg0.N) (r : Fin 512) (j : Fin 2048) (r' : Fin 16384) (j' : Fin 2048) (h : r'.val = t.val * 512 + r.val)
    (h' : j'.val = j.val) : iblk m c 2 t (ix2 r j) = m ((c : Thread nD τ).loc main_arg2) (ix2 r' j') := by
  blk_ext [iblk, V, idx t]
/-- The gain's block holds the gain. -/
theorem b3 (c : Dev nD) (t : Fin cfg0.N) (j j' : Fin 2048) (h : j'.val = j.val) :
    iblk m c 3 t (ix2 0 j) = m ((c : Thread nD τ).loc main_arg3) (ix1 j') := by
  rw [← V1_at m c]
  blk_ext [iblk, idx t]
/-- The per-layer inputs' block holds the grid point's own 512 positions of the layer's inputs. -/
theorem b4 (c : Dev nD) (t : Fin cfg0.N) (r : Fin 512) (k : Fin 256) (r' : Fin 16384) (h : r'.val = t.val * 512 + r.val) :
    iblk m c 4 t (ix3 0 r k) = m ((c : Thread nD τ).loc main_arg4) (ix4 0 ⟨r'.val / 2048, by omega⟩ ⟨r'.val % 2048, by omega⟩ k) := by
  rw [← V2_at m c]
  blk_ext [iblk, idx t]
/-- The input projection's block holds the layer's whole projection matrix. -/
theorem b5 (c : Dev nD) (t : Fin cfg0.N) (k : Fin 256) (j j' : Fin 2048) (h : j'.val = j.val) :
    iblk m c 5 t (ix3 0 k j) = m ((c : Thread nD τ).loc main_arg5) (ix3 0 k j') := by
  blk_point [iblk, V, idx t]

/-- A normalised column block is the reference's on those rows and columns, given what the four blocks of the updated residual hold. -/
theorem point7 (p : FVec Ideal S1x512x256 .f32) (A : FVec Ideal S512x2048 .bf16) (W0 W1 W2 W3 : FVec Ideal S1x2048x512 .bf16)
    (Q0 Q1 Q2 Q3 : FVec Ideal S1x256x512 .bf16) (X0 X1 X2 X3 Y : FVec Ideal S512x512 .f32) (g : FVec Ideal S1x512 .f32)
    (A' : FVec Ideal Cert.PleRefIdeal.S16384x2048 .bf16) (W' : FVec Ideal Cert.PleRefIdeal.S2x2048x2048 .f32)
    (X' : FVec Ideal Cert.PleRefIdeal.S16384x2048 .f32) (g' : FVec Ideal Cert.PleRefIdeal.S2048 .f32)
    (p' : FVec Ideal Cert.PleRefIdeal.S2x8x2048x256 .f32) (Q' : FVec Ideal Cert.PleRefIdeal.S2x256x2048 .f32)
    (x : S512x512.Idx) (z : Cert.PleRefIdeal.S16384x2048.Idx)
    (h0 : ∀ j : Fin 512, k0_pay5 (F := Ideal) p A W0 Q0 X0 (ix2 (x 0) j)
      = val_main_v17 (F := Ideal) A' W' X' p' Q' (ix2 (z 0) ⟨j, by omega⟩))
    (h1 : ∀ j : Fin 512, k0_pay5 (F := Ideal) p A W1 Q1 X1 (ix2 (x 0) j)
      = val_main_v17 (F := Ideal) A' W' X' p' Q' (ix2 (z 0) ⟨512 + j, by omega⟩))
    (h2 : ∀ j : Fin 512, k0_pay5 (F := Ideal) p A W2 Q2 X2 (ix2 (x 0) j)
      = val_main_v17 (F := Ideal) A' W' X' p' Q' (ix2 (z 0) ⟨1024 + j, by omega⟩))
    (h3 : ∀ j : Fin 512, k0_pay5 (F := Ideal) p A W3 Q3 X3 (ix2 (x 0) j)
      = val_main_v17 (F := Ideal) A' W' X' p' Q' (ix2 (z 0) ⟨1536 + j, by omega⟩))
    (hY : Y (ix2 (x 0) (x 1)) = val_main_v17 (F := Ideal) A' W' X' p' Q' (ix2 (z 0) (z 1)))
    (hg : g (ix2 0 (x 1)) = g' (ix1 (z 1))) :
    k0_pay1 (F := Ideal) (k0_pay12 (k0_pay4 p) (k0_pay10 (k0_pay4 p) (k0_pay6 p A W0 Q0 X0) (k0_pay7 A W1) Q1 X1 A W2 Q2 X2)
        A W3 Q3 X3) Y g x = val_main_v31 (F := Ideal) A' W' X' g' p' Q' z := by
  rw [eq_ix2 x, eq_ix2 z]
  refine (nrm_at _ Y g (x 0) (x 1)).trans (Eq.trans ?_ (ref31_at A' W' X' g' p' Q' _ (fun _ _ => rfl) (z 0) (z 1)).symm)
  exact Ideal.mul_congr (Ideal.mul_congr hY
    (ss_at p A W0 W1 W2 W3 Q0 Q1 Q2 Q3 X0 X1 X2 X3 (x 0) (fun k => val_main_v17 (F := Ideal) A' W' X' p' Q' (ix2 (z 0) k)) h0 h1 h2 h3)) hg

/-- One entry of the updated residual is the reference's, given that the blocks hold the arguments' rows and columns. -/
theorem point6 (p : FVec Ideal S1x512x256 .f32) (A : FVec Ideal S512x2048 .bf16) (W : FVec Ideal S1x2048x512 .bf16)
    (Q : FVec Ideal S1x256x512 .bf16) (X : FVec Ideal S512x512 .f32)
    (A' : FVec Ideal Cert.PleRefIdeal.S16384x2048 .bf16) (W' : FVec Ideal Cert.PleRefIdeal.S2x2048x2048 .f32)
    (X' : FVec Ideal Cert.PleRefIdeal.S16384x2048 .f32) (p' : FVec Ideal Cert.PleRefIdeal.S2x8x2048x256 .f32)
    (Q' : FVec Ideal Cert.PleRefIdeal.S2x256x2048 .f32) (r j : Fin 512) (r' : Fin 16384) (j' : Fin 2048)
    (hX : X (ix2 r j) = X' (ix2 r' j')) (hA : ∀ k : Fin 2048, A (ix2 r k) = A' (ix2 r' k))
    (hW : ∀ k : Fin 2048, W (ix3 0 k j) = W' (ix3 0 k j'))
    (hp : ∀ k : Fin 256, p (ix3 0 r k) = p' (ix4 0 ⟨r' / 2048, by omega⟩ ⟨r' % 2048, by omega⟩ k))
    (hQ : ∀ k : Fin 256, Q (ix3 0 k j) = Q' (ix3 0 k j')) :
    k0_pay5 (F := Ideal) p A W Q X (ix2 r j) = val_main_v17 (F := Ideal) A' W' X' p' Q' (ix2 r' j') := by
  refine (upd_at p A W Q X r j).trans (Eq.trans ?_ (ref17_at A' W' X' p' Q' r' j').symm)
  simp only [hX, hA, hW, hp, hQ]

/-- A normalised column block is the reference's on those rows and columns, given what the blocks read hold. -/
theorem full (p : FVec Ideal S1x512x256 .f32) (A : FVec Ideal S512x2048 .bf16) (W0 W1 W2 W3 W : FVec Ideal S1x2048x512 .bf16)
    (Q0 Q1 Q2 Q3 Q : FVec Ideal S1x256x512 .bf16) (X0 X1 X2 X3 X : FVec Ideal S512x512 .f32) (g : FVec Ideal S1x512 .f32)
    (A' : FVec Ideal Cert.PleRefIdeal.S16384x2048 .bf16) (W' : FVec Ideal Cert.PleRefIdeal.S2x2048x2048 .f32)
    (X' : FVec Ideal Cert.PleRefIdeal.S16384x2048 .f32) (g' : FVec Ideal Cert.PleRefIdeal.S2048 .f32)
    (p' : FVec Ideal Cert.PleRefIdeal.S2x8x2048x256 .f32) (Q' : FVec Ideal Cert.PleRefIdeal.S2x256x2048 .f32)
    (x : S512x512.Idx) (z : Cert.PleRefIdeal.S16384x2048.Idx)
    (hA : ∀ k : Fin 2048, A (ix2 (x 0) k) = A' (ix2 (z 0) k))
    (hp : ∀ k : Fin 256, p (ix3 0 (x 0) k) = p' (ix4 0 ⟨(z 0).val / 2048, Nat.div_lt_of_lt_mul (z 0).isLt⟩ ⟨(z 0).val % 2048, Nat.mod_lt _ (by decide)⟩ k))
    (hX0 : ∀ j : Fin 512, X0 (ix2 (x 0) j) = X' (ix2 (z 0) ⟨j, by omega⟩))
    (hW0 : ∀ (j : Fin 512) (k : Fin 2048), W0 (ix3 0 k j) = W' (ix3 0 k ⟨j, by omega⟩))
    (hQ0 : ∀ (j : Fin 512) (k : Fin 256), Q0 (ix3 0 k j) = Q' (ix3 0 k ⟨j, by omega⟩))
    (hX1 : ∀ j : Fin 512, X1 (ix2 (x 0) j) = X' (ix2 (z 0) ⟨512 + j, by omega⟩))
    (hW1 : ∀ (j : Fin 512) (k : Fin 2048), W1 (ix3 0 k j) = W' (ix3 0 k ⟨512 + j, by omega⟩))
    (hQ1 : ∀ (j : Fin 512) (k : Fin 256), Q1 (ix3 0 k j) = Q' (ix3 0 k ⟨512 + j, by omega⟩))
    (hX2 : ∀ j : Fin 512, X2 (ix2 (x 0) j) = X' (ix2 (z 0) ⟨1024 + j, by omega⟩))
    (hW2 : ∀ (j : Fin 512) (k : Fin 2048), W2 (ix3 0 k j) = W' (ix3 0 k ⟨1024 + j, by omega⟩))
    (hQ2 : ∀ (j : Fin 512) (k : Fin 256), Q2 (ix3 0 k j) = Q' (ix3 0 k ⟨1024 + j, by omega⟩))
    (hX3 : ∀ j : Fin 512, X3 (ix2 (x 0) j) = X' (ix2 (z 0) ⟨1536 + j, by omega⟩))
    (hW3 : ∀ (j : Fin 512) (k : Fin 2048), W3 (ix3 0 k j) = W' (ix3 0 k ⟨1536 + j, by omega⟩))
    (hQ3 : ∀ (j : Fin 512) (k : Fin 256), Q3 (ix3 0 k j) = Q' (ix3 0 k ⟨1536 + j, by omega⟩))
    (hX : X (ix2 (x 0) (x 1)) = X' (ix2 (z 0) (z 1))) (hW : ∀ k : Fin 2048, W (ix3 0 k (x 1)) = W' (ix3 0 k (z 1)))
    (hQ : ∀ k : Fin 256, Q (ix3 0 k (x 1)) = Q' (ix3 0 k (z 1))) (hg : g (ix2 0 (x 1)) = g' (ix1 (z 1))) :
    k0_pay1 (F := Ideal) (k0_pay12 (k0_pay4 p) (k0_pay10 (k0_pay4 p) (k0_pay6 p A W0 Q0 X0) (k0_pay7 A W1) Q1 X1 A W2 Q2 X2)
        A W3 Q3 X3) (k0_pay5 (F := Ideal) p A W Q X) g x = val_main_v31 (F := Ideal) A' W' X' g' p' Q' z :=
  point7 p A W0 W1 W2 W3 Q0 Q1 Q2 Q3 X0 X1 X2 X3 _ g A' W' X' g' p' Q' x z
    (fun j => point6 _ _ _ _ _ _ _ _ _ _ _ _ _ _ (hX0 j) hA (hW0 j) hp (hQ0 j))
    (fun j => point6 _ _ _ _ _ _ _ _ _ _ _ _ _ _ (hX1 j) hA (hW1 j) hp (hQ1 j))
    (fun j => point6 _ _ _ _ _ _ _ _ _ _ _ _ _ _ (hX2 j) hA (hW2 j) hp (hQ2 j))
    (fun j => point6 _ _ _ _ _ _ _ _ _ _ _ _ _ _ (hX3 j) hA (hW3 j) hp (hQ3 j))
    (point6 _ _ _ _ _ _ _ _ _ _ _ _ _ _ hX hA hW hp hQ) hg

/-- The call's updated residual is the reference's. -/
theorem final6 (c : Dev nD) : (dats m 0 c).arrAt 6 (cfgs 0).N
    = val_main_v17 (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 6 _ (by decide +kernel) fun t _ y => ?_
  blk_simp
  rw [after0_6]; unfold outsAt0; frame_out
  canon_tiles x h
  all_goals
    generalize hz : (((View.whole main_v4_0).slice (win0_6.rect t)).emb y) = z
    have hz0 : (z 0).val = t.val * 512 + (y 0).val := by subst hz; blk_simp [idx t]
    have hz1 : (z 1).val = (y 1).val := by subst hz; blk_simp [idx t]
    try simp only [upd8, upd9, upd11]
    rw [eq_ix2 x, eq_ix2 z]
    refine point6 _ _ _ _ _ _ _ _ _ _ _ _ _ _ ?_ (fun k => ?_) (fun k => ?_) (fun k => ?_) (fun k => ?_)
    · pointwise []; rw [eq_ix2 z]; exact b2 m c t _ _ _ _ (by (try dsimp only) <;> omega) (by (try dsimp only) <;> omega)
    · pointwise []; exact b0 m c t _ _ _ (by (try dsimp only) <;> omega)
    · pointwise []; exact b1 m c t _ _ _ (by (try dsimp only) <;> omega)
    · pointwise []; exact b4 m c t _ _ _ (by (try dsimp only) <;> omega)
    · pointwise []; exact b5 m c t _ _ _ (by (try dsimp only) <;> omega)

set_option maxHeartbeats 1000000 in
/-- The call's normalised rows are the reference's. -/
theorem final7 (c : Dev nD) : (dats m 0 c).arrAt 7 (cfgs 0).N
    = val_main_v31 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]; unfold outsAt0
  frame_open
  simp (disch := decide) only [↓ View.readCov_skip, ↓ View.readCov_cons_toLoadRect, ↓ View.readCov_fill]
  frame_out
  canon_tiles x h
  all_goals
    generalize hz : (((View.whole main_v4_1).slice (win0_7.rect t)).emb y) = z
    have hz0 : (z 0).val = t.val * 512 + (y 0).val := by subst hz; blk_simp [idx t]
    have hz1 : (z 1).val = (y 1).val := by subst hz; blk_simp [idx t]
    try simp only [upd8, upd9, upd11, nrm2, nrm3, nrm13]
    refine full _ _ _ _ _ _ _ _ _ _ _ _ _ _ _ _ _ _ _ _ _ _ _ _ x z (fun k => ?_) (fun k => ?_) (fun j => ?_) (fun j k => ?_) (fun j k => ?_) (fun j => ?_) (fun j k => ?_) (fun j k => ?_) (fun j => ?_) (fun j k => ?_) (fun j k => ?_) (fun j => ?_) (fun j k => ?_) (fun j k => ?_) ?_ (fun k => ?_) (fun k => ?_) ?_
    · pointwise []; exact b0 m c t _ _ _ (by (try dsimp only) <;> omega)
    · pointwise []; exact b4 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b5 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b5 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b5 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b5 m c t _ _ _ (by (try dsimp only) <;> omega)
    · pointwise []; rw [eq_ix2 z]; exact b2 m c t _ _ _ _ (by (try dsimp only) <;> omega) (by (try dsimp only) <;> omega)
    · pointwise []; exact b1 m c t _ _ _ (by (try dsimp only) <;> omega)
    · pointwise []; exact b5 m c t _ _ _ (by (try dsimp only) <;> omega)
    · pointwise []; exact b3 m c t _ _ (by (try dsimp only) <;> omega)

end Cert.PleIdeal.Hand
end
-- ==== Proof.PleLastValue.lean ====
module

public import proofs.«01_k».proof.Proof.Gen.PleLastIdeal.Value
public import proofs.«01_k».proof.Proof.Gen.PleLastRefIdeal.Read
public import Idealize.ShloMosaic.Lib.Pipeline.ValueKit
public import Idealize.ShloMosaic.Lib.Pipeline.ReadBack
public import Idealize.ShloMosaic.Lib.Pointwise
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleLastIdeal.Hand

open Cert.PleLastIdeal Cert.PleLastIdeal.Gen
open Cert.PleLastRefIdeal.Read

variable (m : (ℓ : Loc nD τ sig) → Buf (Elt Ideal) ℓ)

/-- One column block of the updated residual at an index: the row's gate times the row's projection, added on. -/
theorem upd_at (p : FVec Ideal S1x512x256 .f32) (A : FVec Ideal S512x2048 .bf16) (W : FVec Ideal S1x2048x512 .bf16)
    (Q : FVec Ideal S1x256x512 .bf16) (X : FVec Ideal S512x512 .f32) (r : Fin 512) (j : Fin 512) :
    k0_pay6 (F := Ideal) p A W Q X (ix2 r j) = X (ix2 r j)
      + Ideal.logistic (∑ k : Fin 2048, A (ix2 r k) * W (ix3 0 k j)) * ∑ k : Fin 256, p (ix3 0 r k) * Q (ix3 0 k j) := by
  pointwise [k0_pay6, k0_pay5]

/-- A block cast to its own shape is itself. -/
theorem cast_eq (Y : FVec Ideal S512x512 .f32) : shapeCast S512x512 Y shapeCasts_S512x512_S512x512 = Y := by
  funext i
  idx_vars i
  pointwise []

/-- The second column block is updated as the first is. -/
theorem upd7 (p : FVec Ideal S1x512x256 .f32) (A : FVec Ideal S512x2048 .bf16) (W : FVec Ideal S1x2048x512 .bf16)
    (Q : FVec Ideal S1x256x512 .bf16) (X : FVec Ideal S512x512 .f32) :
    k0_pay7 (F := Ideal) p A W Q X = k0_pay6 p A W Q X := cast_eq _
/-- Another column block is updated as the first is. -/
theorem upd11 (p : FVec Ideal S1x512x256 .f32) (A : FVec Ideal S512x2048 .bf16) (W : FVec Ideal S1x2048x512 .bf16)
    (Q : FVec Ideal S1x256x512 .bf16) (X : FVec Ideal S512x512 .f32) :
    k0_pay11 (F := Ideal) (k0_pay5 p) (k0_pay9 A W) Q X = k0_pay6 p A W Q X := cast_eq _
/-- Another column block is updated as the first is. -/
theorem upd13 (p : FVec Ideal S1x512x256 .f32) (A : FVec Ideal S512x2048 .bf16) (W : FVec Ideal S1x2048x512 .bf16)
    (Q : FVec Ideal S1x256x512 .bf16) (X : FVec Ideal S512x512 .f32) :
    k0_pay13 (F := Ideal) (k0_pay5 p) A W Q X = k0_pay6 p A W Q X := cast_eq _
/-- Another column block is updated as the first is. -/
theorem upd18 (p : FVec Ideal S1x512x256 .f32) (A : FVec Ideal S512x2048 .bf16) (W : FVec Ideal S1x2048x512 .bf16)
    (Q : FVec Ideal S1x256x512 .bf16) (X : FVec Ideal S512x512 .f32) :
    k0_pay18 (F := Ideal) (k0_pay5 p) A W Q X = k0_pay6 p A W Q X := cast_eq _
/-- The four column blocks are normalised alike. -/
theorem nrm3 (S : FVec Ideal S512x1 .f32) (Y : FVec Ideal S512x512 .f32) (g : FVec Ideal S1x512 .f32) :
    k0_pay3 (F := Ideal) S Y g = k0_pay2 S Y g := rfl
/-- Another column block is normalised as the first is. -/
theorem nrm4 (S : FVec Ideal S512x1 .f32) (Y : FVec Ideal S512x512 .f32) (g : FVec Ideal S1x512 .f32) :
    k0_pay4 (F := Ideal) S Y g = k0_pay2 S Y g := rfl
/-- The last column block, its mean square still to be added up, is normalised as the first is. -/
theorem nrm20 (P : FVec Ideal S512x256 .bf16) (B : FVec Ideal S512x512 .f32) (S T : FVec Ideal S512x128 .f32) (A : FVec Ideal S512x2048 .bf16)
    (W : FVec Ideal S1x2048x512 .bf16) (Q : FVec Ideal S1x256x512 .bf16) (X Y : FVec Ideal S512x512 .f32) (g : FVec Ideal S1x512 .f32) :
    k0_pay1 (F := Ideal) (k0_pay20 P B S T A W Q X Y) (k0_pay21 g) = k0_pay2 (k0_pay19 P B S T A W Q X) Y g := rfl

/-- A row's inverse root mean square as the body adds it up from its four column blocks. -/
theorem ss_at (p : FVec Ideal S1x512x256 .f32) (A : FVec Ideal S512x2048 .bf16) (W0 W1 W2 W3 : FVec Ideal S1x2048x512 .bf16)
    (Q0 Q1 Q2 Q3 : FVec Ideal S1x256x512 .bf16) (X0 X1 X2 X3 : FVec Ideal S512x512 .f32) (r : Fin 512) (f : Fin 2048 → EReal)
    (h0 : ∀ j : Fin 512, k0_pay6 (F := Ideal) p A W0 Q0 X0 (ix2 r j) = f ⟨j, by omega⟩)
    (h1 : ∀ j : Fin 512, k0_pay6 (F := Ideal) p A W1 Q1 X1 (ix2 r j) = f ⟨512 + j, by omega⟩)
    (h2 : ∀ j : Fin 512, k0_pay6 (F := Ideal) p A W2 Q2 X2 (ix2 r j) = f ⟨1024 + j, by omega⟩)
    (h3 : ∀ j : Fin 512, k0_pay6 (F := Ideal) p A W3 Q3 X3 (ix2 r j) = f ⟨1536 + j, by omega⟩) :
    k0_pay19 (F := Ideal) (k0_pay5 p) (k0_pay14 (k0_pay5 p) A W2 Q2 X2)
        (k0_pay15 (k0_pay5 p) (k0_pay8 p A W0 Q0 X0) (k0_pay9 A W1) Q1 X1 A W2 Q2 X2) (k0_pay16 (k0_pay5 p) A W2 Q2 X2)
        A W3 Q3 X3 (ix2 r 0)
      = Ideal.rsqrt ((∑ k : Fin 2048, f k * f k) * Ideal.ofBits .f32 0x3A000000#32 + Ideal.ofBits .f32 0x358637BD#32) := by
  rw [← Rows.lanes]
  change ∀ j : Fin 512, k0_pay10 (F := Ideal) (k0_pay5 p) (k0_pay9 A W1) Q1 X1 (ix2 r j) = _ at h1
  change ∀ j : Fin 512, k0_pay12 (F := Ideal) (k0_pay5 p) A W2 Q2 X2 (ix2 r j) = _ at h2
  change ∀ j : Fin 512, k0_pay17 (F := Ideal) (k0_pay5 p) A W3 Q3 X3 (ix2 r j) = _ at h3
  pointwise [k0_pay19, k0_pay14, k0_pay16, k0_pay15, k0_pay8]
  simp only [h0, h1, h2, h3]

/-- The first normalised column block at an index. -/
theorem nrm_at (S : FVec Ideal S512x1 .f32) (Y : FVec Ideal S512x512 .f32) (g : FVec Ideal S1x512 .f32)
    (r : Fin 512) (j : Fin 512) : k0_pay2 (F := Ideal) S Y g (ix2 r j)
    = Y (ix2 r j) * S (ix2 r 0) * g (ix2 0 j) := by
  pointwise [k0_pay2]

/-- The reference's updated residual at an index. -/
theorem ref17_at (A : FVec Ideal Cert.PleLastRefIdeal.S16384x2048 .bf16) (W : FVec Ideal Cert.PleLastRefIdeal.S2x2048x2048 .f32)
    (X : FVec Ideal Cert.PleLastRefIdeal.S16384x2048 .f32) (p : FVec Ideal Cert.PleLastRefIdeal.S2x8x2048x256 .f32)
    (Q : FVec Ideal Cert.PleLastRefIdeal.S2x256x2048 .f32) (r : Fin 16384) (j : Fin 2048) :
    val_main_v17 (F := Ideal) A W X p Q (ix2 r j) = X (ix2 r j)
      + Ideal.logistic (∑ k : Fin 2048, A (ix2 r k) * W (ix3 1 k j))
        * ∑ k : Fin 256, p (ix4 1 ⟨r / 2048, by omega⟩ ⟨r % 2048, by omega⟩ k) * Q (ix3 1 k j) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  simp only [Ideal.logistic, Ideal.ofBits_one_f32]

/-- The reference's normalised row at an index, over the updated residual. -/
theorem ref30_at (A : FVec Ideal Cert.PleLastRefIdeal.S16384x2048 .bf16) (W : FVec Ideal Cert.PleLastRefIdeal.S2x2048x2048 .f32)
    (X : FVec Ideal Cert.PleLastRefIdeal.S16384x2048 .f32) (g : FVec Ideal Cert.PleLastRefIdeal.S2048 .f32)
    (p : FVec Ideal Cert.PleLastRefIdeal.S2x8x2048x256 .f32) (Q : FVec Ideal Cert.PleLastRefIdeal.S2x256x2048 .f32)
    (f : Fin 16384 → Fin 2048 → EReal) (hf : ∀ r j, val_main_v17 (F := Ideal) A W X p Q (ix2 r j) = f r j) (r : Fin 16384) (j : Fin 2048) :
    val_main_v30 (F := Ideal) A W X g p Q (ix2 r j) = f r j * Ideal.rsqrt ((∑ k : Fin 2048, f r k * f r k)
      * Ideal.ofBits .f32 0x3A000000#32 + Ideal.ofBits .f32 0x358637BD#32) * g (ix1 j) := by
  rw [← Rows.mean]
  pointwise [val_main_v30, val_main_v29, val_main_v28, val_main_v27, val_main_v26, val_main_v25, val_main_v24, val_main_v23, val_main_v22, val_main_v21, val_main_v20, val_main_v19, val_main_v18, val_main_cst_1, val_main_cst_2, val_main_cst_3]
  simp only [hf]

/-- Which blocks a grid point reads and writes: its own 512 rows, the whole weights and gain. -/
theorem idx : ∀ t : Fin cfg0.N, win0_0.index t = ![t.val, 0] ∧ win0_1.index t = ![1, 0, 0] ∧ win0_2.index t = ![t.val, 0]
    ∧ win0_3.index t = ![0, 0] ∧ win0_4.index t = ![1, t.val, 0] ∧ win0_5.index t = ![1, 0, 0] ∧ win0_6.index t = ![t.val, 0] ∧ t.val < 32 :=
  (by decide +kernel : ∀ t : Fin grid0.N, _)

/-- The per-layer inputs' operand is the argument with its two row axes joined. -/
theorem V2_at (c : Dev nD) (l : Fin 2) (r : Fin 16384) (k : Fin 256) : V m c main_v2 (ix3 l r k)
    = m ((c : Thread nD τ).loc main_arg4) (ix4 l ⟨r / 2048, by omega⟩ ⟨r % 2048, by omega⟩ k) := by
  entry_read
  pointwise []

/-- The gain's operand is the argument as one row. -/
theorem V1_at (c : Dev nD) (k : Fin 2048) : V m c main_v1 (ix2 0 k) = m ((c : Thread nD τ).loc main_arg3) (ix1 k) := by
  entry_read
  pointwise []

/-- The rows' block holds the grid point's own 512 rows. -/
theorem b0 (c : Dev nD) (t : Fin cfg0.N) (r : Fin 512) (k : Fin 2048) (r' : Fin 16384) (h : r'.val = t.val * 512 + r.val) :
    iblk m c 0 t (ix2 r k) = m ((c : Thread nD τ).loc main_arg0) (ix2 r' k) := by
  blk_ext [iblk, V, idx t]
/-- The gate weights' block holds the last layer's whole weight matrix. -/
theorem b1 (c : Dev nD) (t : Fin cfg0.N) (k : Fin 2048) (j j' : Fin 2048) (h : j'.val = j.val) :
    iblk m c 1 t (ix3 0 k j) = m ((c : Thread nD τ).loc main_arg1) (ix3 1 k j') := by
  blk_point [iblk, V, idx t]
/-- The residual's block holds the grid point's own 512 rows of the residual. -/
theorem b2 (c : Dev nD) (t : Fin cfg0.N) (r : Fin 512) (j : Fin 2048) (r' : Fin 16384) (j' : Fin 2048) (h : r'.val = t.val * 512 + r.val)
    (h' : j'.val = j.val) : iblk m c 2 t (ix2 r j) = m ((c : Thread nD τ).loc main_arg2) (ix2 r' j') := by
  blk_ext [iblk, V, idx t]
/-- The gain's block holds the gain. -/
theorem b3 (c : Dev nD) (t : Fin cfg0.N) (j j' : Fin 2048) (h : j'.val = j.val) :
    iblk m c 3 t (ix2 0 j) = m ((c : Thread nD τ).loc main_arg3) (ix1 j') := by
  rw [← V1_at m c]
  blk_ext [iblk, idx t]
/-- The per-layer inputs' block holds the grid point's own 512 positions of the layer's inputs. -/
theorem b4 (c : Dev nD) (t : Fin cfg0.N) (r : Fin 512) (k : Fin 256) (r' : Fin 16384) (h : r'.val = t.val * 512 + r.val) :
    iblk m c 4 t (ix3 0 r k) = m ((c : Thread nD τ).loc main_arg4) (ix4 1 ⟨r'.val / 2048, by omega⟩ ⟨r'.val % 2048, by omega⟩ k) := by
  rw [← V2_at m c]
  blk_ext [iblk, idx t]
/-- The input projection's block holds the layer's whole projection matrix. -/
theorem b5 (c : Dev nD) (t : Fin cfg0.N) (k : Fin 256) (j j' : Fin 2048) (h : j'.val = j.val) :
    iblk m c 5 t (ix3 0 k j) = m ((c : Thread nD τ).loc main_arg5) (ix3 1 k j') := by
  blk_point [iblk, V, idx t]

/-- A normalised column block is the reference's on those rows and columns, given what the four blocks of the updated residual hold. -/
theorem point (p : FVec Ideal S1x512x256 .f32) (A : FVec Ideal S512x2048 .bf16) (W0 W1 W2 W3 : FVec Ideal S1x2048x512 .bf16)
    (Q0 Q1 Q2 Q3 : FVec Ideal S1x256x512 .bf16) (X0 X1 X2 X3 Y : FVec Ideal S512x512 .f32) (g : FVec Ideal S1x512 .f32)
    (A' : FVec Ideal Cert.PleLastRefIdeal.S16384x2048 .bf16) (W' : FVec Ideal Cert.PleLastRefIdeal.S2x2048x2048 .f32)
    (X' : FVec Ideal Cert.PleLastRefIdeal.S16384x2048 .f32) (g' : FVec Ideal Cert.PleLastRefIdeal.S2048 .f32)
    (p' : FVec Ideal Cert.PleLastRefIdeal.S2x8x2048x256 .f32) (Q' : FVec Ideal Cert.PleLastRefIdeal.S2x256x2048 .f32)
    (x : S512x512.Idx) (z : Cert.PleLastRefIdeal.S16384x2048.Idx)
    (h0 : ∀ j : Fin 512, k0_pay6 (F := Ideal) p A W0 Q0 X0 (ix2 (x 0) j)
      = val_main_v17 (F := Ideal) A' W' X' p' Q' (ix2 (z 0) ⟨j, by omega⟩))
    (h1 : ∀ j : Fin 512, k0_pay6 (F := Ideal) p A W1 Q1 X1 (ix2 (x 0) j)
      = val_main_v17 (F := Ideal) A' W' X' p' Q' (ix2 (z 0) ⟨512 + j, by omega⟩))
    (h2 : ∀ j : Fin 512, k0_pay6 (F := Ideal) p A W2 Q2 X2 (ix2 (x 0) j)
      = val_main_v17 (F := Ideal) A' W' X' p' Q' (ix2 (z 0) ⟨1024 + j, by omega⟩))
    (h3 : ∀ j : Fin 512, k0_pay6 (F := Ideal) p A W3 Q3 X3 (ix2 (x 0) j)
      = val_main_v17 (F := Ideal) A' W' X' p' Q' (ix2 (z 0) ⟨1536 + j, by omega⟩))
    (hY : Y (ix2 (x 0) (x 1)) = val_main_v17 (F := Ideal) A' W' X' p' Q' (ix2 (z 0) (z 1)))
    (hg : g (ix2 0 (x 1)) = g' (ix1 (z 1))) :
    k0_pay2 (F := Ideal) (k0_pay19 (k0_pay5 p) (k0_pay14 (k0_pay5 p) A W2 Q2 X2)
        (k0_pay15 (k0_pay5 p) (k0_pay8 p A W0 Q0 X0) (k0_pay9 A W1) Q1 X1 A W2 Q2 X2) (k0_pay16 (k0_pay5 p) A W2 Q2 X2)
        A W3 Q3 X3) Y g x = val_main_v30 (F := Ideal) A' W' X' g' p' Q' z := by
  rw [eq_ix2 x, eq_ix2 z]
  refine (nrm_at _ Y g (x 0) (x 1)).trans (Eq.trans ?_ (ref30_at A' W' X' g' p' Q' _ (fun _ _ => rfl) (z 0) (z 1)).symm)
  exact Ideal.mul_congr (Ideal.mul_congr hY
    (ss_at p A W0 W1 W2 W3 Q0 Q1 Q2 Q3 X0 X1 X2 X3 (x 0) (fun k => val_main_v17 (F := Ideal) A' W' X' p' Q' (ix2 (z 0) k)) h0 h1 h2 h3)) hg

/-- One entry of the updated residual is the reference's, given that the blocks hold the arguments' rows and columns. -/
theorem point6 (p : FVec Ideal S1x512x256 .f32) (A : FVec Ideal S512x2048 .bf16) (W : FVec Ideal S1x2048x512 .bf16)
    (Q : FVec Ideal S1x256x512 .bf16) (X : FVec Ideal S512x512 .f32)
    (A' : FVec Ideal Cert.PleLastRefIdeal.S16384x2048 .bf16) (W' : FVec Ideal Cert.PleLastRefIdeal.S2x2048x2048 .f32)
    (X' : FVec Ideal Cert.PleLastRefIdeal.S16384x2048 .f32) (p' : FVec Ideal Cert.PleLastRefIdeal.S2x8x2048x256 .f32)
    (Q' : FVec Ideal Cert.PleLastRefIdeal.S2x256x2048 .f32) (r j : Fin 512) (r' : Fin 16384) (j' : Fin 2048)
    (hX : X (ix2 r j) = X' (ix2 r' j')) (hA : ∀ k : Fin 2048, A (ix2 r k) = A' (ix2 r' k))
    (hW : ∀ k : Fin 2048, W (ix3 0 k j) = W' (ix3 1 k j'))
    (hp : ∀ k : Fin 256, p (ix3 0 r k) = p' (ix4 1 ⟨r' / 2048, by omega⟩ ⟨r' % 2048, by omega⟩ k))
    (hQ : ∀ k : Fin 256, Q (ix3 0 k j) = Q' (ix3 1 k j')) :
    k0_pay6 (F := Ideal) p A W Q X (ix2 r j) = val_main_v17 (F := Ideal) A' W' X' p' Q' (ix2 r' j') := by
  refine (upd_at p A W Q X r j).trans (Eq.trans ?_ (ref17_at A' W' X' p' Q' r' j').symm)
  simp only [hX, hA, hW, hp, hQ]

/-- A normalised column block is the reference's on those rows and columns, given what the blocks read hold. -/
theorem full (p : FVec Ideal S1x512x256 .f32) (A : FVec Ideal S512x2048 .bf16) (W0 W1 W2 W3 W : FVec Ideal S1x2048x512 .bf16)
    (Q0 Q1 Q2 Q3 Q : FVec Ideal S1x256x512 .bf16) (X0 X1 X2 X3 X : FVec Ideal S512x512 .f32) (g : FVec Ideal S1x512 .f32)
    (A' : FVec Ideal Cert.PleLastRefIdeal.S16384x2048 .bf16) (W' : FVec Ideal Cert.PleLastRefIdeal.S2x2048x2048 .f32)
    (X' : FVec Ideal Cert.PleLastRefIdeal.S16384x2048 .f32) (g' : FVec Ideal Cert.PleLastRefIdeal.S2048 .f32)
    (p' : FVec Ideal Cert.PleLastRefIdeal.S2x8x2048x256 .f32) (Q' : FVec Ideal Cert.PleLastRefIdeal.S2x256x2048 .f32)
    (x : S512x512.Idx) (z : Cert.PleLastRefIdeal.S16384x2048.Idx)
    (hA : ∀ k : Fin 2048, A (ix2 (x 0) k) = A' (ix2 (z 0) k))
    (hp : ∀ k : Fin 256, p (ix3 0 (x 0) k) = p' (ix4 1 ⟨(z 0).val / 2048, Nat.div_lt_of_lt_mul (z 0).isLt⟩ ⟨(z 0).val % 2048, Nat.mod_lt _ (by decide)⟩ k))
    (hX0 : ∀ j : Fin 512, X0 (ix2 (x 0) j) = X' (ix2 (z 0) ⟨j, by omega⟩))
    (hW0 : ∀ (j : Fin 512) (k : Fin 2048), W0 (ix3 0 k j) = W' (ix3 1 k ⟨j, by omega⟩))
    (hQ0 : ∀ (j : Fin 512) (k : Fin 256), Q0 (ix3 0 k j) = Q' (ix3 1 k ⟨j, by omega⟩))
    (hX1 : ∀ j : Fin 512, X1 (ix2 (x 0) j) = X' (ix2 (z 0) ⟨512 + j, by omega⟩))
    (hW1 : ∀ (j : Fin 512) (k : Fin 2048), W1 (ix3 0 k j) = W' (ix3 1 k ⟨512 + j, by omega⟩))
    (hQ1 : ∀ (j : Fin 512) (k : Fin 256), Q1 (ix3 0 k j) = Q' (ix3 1 k ⟨512 + j, by omega⟩))
    (hX2 : ∀ j : Fin 512, X2 (ix2 (x 0) j) = X' (ix2 (z 0) ⟨1024 + j, by omega⟩))
    (hW2 : ∀ (j : Fin 512) (k : Fin 2048), W2 (ix3 0 k j) = W' (ix3 1 k ⟨1024 + j, by omega⟩))
    (hQ2 : ∀ (j : Fin 512) (k : Fin 256), Q2 (ix3 0 k j) = Q' (ix3 1 k ⟨1024 + j, by omega⟩))
    (hX3 : ∀ j : Fin 512, X3 (ix2 (x 0) j) = X' (ix2 (z 0) ⟨1536 + j, by omega⟩))
    (hW3 : ∀ (j : Fin 512) (k : Fin 2048), W3 (ix3 0 k j) = W' (ix3 1 k ⟨1536 + j, by omega⟩))
    (hQ3 : ∀ (j : Fin 512) (k : Fin 256), Q3 (ix3 0 k j) = Q' (ix3 1 k ⟨1536 + j, by omega⟩))
    (hX : X (ix2 (x 0) (x 1)) = X' (ix2 (z 0) (z 1))) (hW : ∀ k : Fin 2048, W (ix3 0 k (x 1)) = W' (ix3 1 k (z 1)))
    (hQ : ∀ k : Fin 256, Q (ix3 0 k (x 1)) = Q' (ix3 1 k (z 1))) (hg : g (ix2 0 (x 1)) = g' (ix1 (z 1))) :
    k0_pay2 (F := Ideal) (k0_pay19 (k0_pay5 p) (k0_pay14 (k0_pay5 p) A W2 Q2 X2)
        (k0_pay15 (k0_pay5 p) (k0_pay8 p A W0 Q0 X0) (k0_pay9 A W1) Q1 X1 A W2 Q2 X2) (k0_pay16 (k0_pay5 p) A W2 Q2 X2)
        A W3 Q3 X3) (k0_pay6 (F := Ideal) p A W Q X) g x = val_main_v30 (F := Ideal) A' W' X' g' p' Q' z :=
  point p A W0 W1 W2 W3 Q0 Q1 Q2 Q3 X0 X1 X2 X3 _ g A' W' X' g' p' Q' x z
    (fun j => point6 _ _ _ _ _ _ _ _ _ _ _ _ _ _ (hX0 j) hA (hW0 j) hp (hQ0 j))
    (fun j => point6 _ _ _ _ _ _ _ _ _ _ _ _ _ _ (hX1 j) hA (hW1 j) hp (hQ1 j))
    (fun j => point6 _ _ _ _ _ _ _ _ _ _ _ _ _ _ (hX2 j) hA (hW2 j) hp (hQ2 j))
    (fun j => point6 _ _ _ _ _ _ _ _ _ _ _ _ _ _ (hX3 j) hA (hW3 j) hp (hQ3 j))
    (point6 _ _ _ _ _ _ _ _ _ _ _ _ _ _ hX hA hW hp hQ) hg

set_option maxHeartbeats 1000000 in
/-- The call's result, the layer stack's own result, is the reference's. -/
theorem final6 (c : Dev nD) : (dats m 0 c).arrAt 6 (cfgs 0).N
    = val_main_v30 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; unfold outsAt0
  frame_open
  simp (disch := decide) only [↓ View.readCov_skip, ↓ View.readCov_cons_toLoadRect, ↓ View.readCov_fill]
  frame_out
  canon_tiles x h
  all_goals
    generalize hz : (((View.whole main_v4).slice (win0_6.rect t)).emb y) = z
    have hz0 : (z 0).val = t.val * 512 + (y 0).val := by subst hz; blk_simp [idx t]
    have hz1 : (z 1).val = (y 1).val := by subst hz; blk_simp [idx t]
    try simp only [upd7, upd11, upd13, upd18, nrm3, nrm4, nrm20]
    refine full _ _ _ _ _ _ _ _ _ _ _ _ _ _ _ _ _ _ _ _ _ _ _ _ x z (fun k => ?_) (fun k => ?_) (fun j => ?_) (fun j k => ?_) (fun j k => ?_) (fun j => ?_) (fun j k => ?_) (fun j k => ?_) (fun j => ?_) (fun j k => ?_) (fun j k => ?_) (fun j => ?_) (fun j k => ?_) (fun j k => ?_) ?_ (fun k => ?_) (fun k => ?_) ?_
    · pointwise []; exact b0 m c t _ _ _ (by (try dsimp only) <;> omega)
    · pointwise []; exact b4 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b5 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b5 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b5 m c t _ _ _ (by (try dsimp only) <;> omega)
    · pointwise []; exact b2 m c t _ _ _ _ (by (try dsimp only) <;> omega) (by (try dsimp only) <;> omega)
    · pointwise []; exact b1 m c t _ _ _ (by (try dsimp only) <;> omega)
    · pointwise []; exact b5 m c t _ _ _ (by (try dsimp only) <;> omega)
    · pointwise []; rw [eq_ix2 z]; exact b2 m c t _ _ _ _ (by (try dsimp only) <;> omega) (by (try dsimp only) <;> omega)
    · pointwise []; exact b1 m c t _ _ _ (by (try dsimp only) <;> omega)
    · pointwise []; exact b5 m c t _ _ _ (by (try dsimp only) <;> omega)
    · pointwise []; exact b3 m c t _ _ (by (try dsimp only) <;> omega)

end Cert.PleLastIdeal.Hand
end
-- ==== Proof.InProjNextValue.lean ====
module

public import proofs.«01_k».proof.Proof.Gen.InProjNextIdeal.Value
public import proofs.«01_k».proof.Proof.Gen.InProjNextRefIdeal.Read
public import Idealize.ShloMosaic.Lib.Pipeline.ValueKit
public import Idealize.ShloMosaic.Lib.Pointwise
public import Idealize.ShloMosaic.Lib.Claim
public import proofs.«01_k».proof.Proof.InProjValue

@[expose] public section

set_option maxRecDepth 16384

noncomputable section

open Idealize.ShloMosaic Idealize.ShloMosaic.TcCoe Idealize.SL.Sem
open Idealize.ShloMosaic.Pipeline (Dat)

namespace Cert.InProjNextIdeal.Hand

open Cert.InProjNextIdeal Cert.InProjNextIdeal.Gen
open Cert.InProjNextRefIdeal.Read
open Cert.InProjIdeal.Hand (col wcat cat7 wcat_at dite_eq_of)

variable (m : (ℓ : Loc nD τ sig) → Buf (Elt Ideal) ℓ)

/-- The body's payload at an index: a row against one column of the weight. -/
theorem pay_at (X : FVec Ideal S512x2048 .bf16) (W : FVec Ideal S1x2048x5760 .bf16)
    (r : Fin 512) (j : Fin 5760) : k0_pay1 (F := Ideal) X W (ix2 r j) = ∑ k : Fin 2048, X (ix2 r k) * W (ix3 0 k j) := by
  pointwise [k0_pay1]

/-- The reference at an index: the same row against the column of the second layer's weight that the result's order names. -/
theorem ref_at (X : FVec Ideal S16384x2048 .bf16) (W : FVec Ideal S2x2048x5664 .f32)
    (r : Fin 16384) (j : Fin 5760) : val_main_v15 (F := Ideal) X W (ix2 r j)
    = ∑ k : Fin 2048, X (ix2 r k) * col 1 W k j := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst]
  iterate 10 (refine dite_eq_of (fun _ => ?_) (fun _ => ?_); rotate_left)
  rotate_left
  on_goal 11 =>
    symm
    refine Finset.sum_eq_zero fun k _ => ?_
    unfold col
    repeat' split
    all_goals first | omega | exact mul_zero _
  all_goals
    refine Finset.sum_congr rfl fun k _ => congrArg _ ?_
    unfold col
    repeat' split
    all_goals first | omega | exact congrArg W (congrArg (ix3 _ k) (Fin.ext (by first | (dsimp only; omega) | omega)))

/-- The kernel's weight operand is the permuted weights. -/
theorem V13 (c : Dev nD) : V m c main_v13 = wcat (m ((c : Thread nD τ).loc main_arg1)) := by
  show StableHlo.after hostOps0 _ _ = _
  after_results_simp
  dsimp only [Matrix.cons_val]
  show cat7 _ _ _ _ _ _ _ = _
  after_results_simp
  rfl

/-- Which blocks a grid point reads and writes: its own 512 rows, the second layer's weights. -/
theorem idx : ∀ t : Fin cfg0.N, win0_0.index t = ![t.val, 0] ∧ win0_1.index t = ![1, 0, 0]
    ∧ win0_2.index t = ![t.val, 0] ∧ t.val < 32 :=
  (by decide +kernel : ∀ t : Fin grid0.N, _)

/-- The body's payload on a block of rows is the reference on those rows, given what the blocks hold. -/
theorem point (X : FVec Ideal S512x2048 .bf16) (W : FVec Ideal S1x2048x5760 .bf16)
    (X' : FVec Ideal Cert.InProjNextRefIdeal.S16384x2048 .bf16) (W' : FVec Ideal Cert.InProjNextRefIdeal.S2x2048x5664 .f32)
    (y : S512x5760.Idx) (z : Cert.InProjNextRefIdeal.S16384x5760.Idx)
    (hX : ∀ k : Fin 2048, X (ix2 (y 0) k) = X' (ix2 (z 0) k))
    (hW : ∀ k : Fin 2048, W (ix3 0 k (y 1)) = col 1 W' k (z 1)) :
    k0_pay1 (F := Ideal) X W y = val_main_v15 (F := Ideal) X' W' z := by
  rw [eq_ix2 y, eq_ix2 z]
  refine (pay_at X W (y 0) (y 1)).trans (Eq.trans ?_ (ref_at X' W' (z 0) (z 1)).symm)
  simp only [hX, hW]

/-- The call's result is the reference's. -/
theorem final (c : Dev nD) : (dats m 0 c).arrAt 2 (cfgs 0).N
    = val_main_v15 (m ((c : Thread nD τ).loc main_arg0)) (m ((c : Thread nD τ).loc main_arg1)) := by
  refine (dats m 0 c).arrAt_eq_of_covers 2 _ (by decide +kernel) fun t _ y => ?_
  blk_simp
  rw [after0_2]
  frame_out
  refine point _ _ _ _ _ _ (fun k => ?_) (fun k => ?_)
  · blk_ext [iblk, V, idx t]
  · refine Eq.trans ?_ (wcat_at _ 1 k _)
    rw [← V13]
    blk_ext [iblk, idx t]

end Cert.InProjNextIdeal.Hand
end
-- ==== Proof.lean ====
/- The certificate: every program of the calls runs and leaves its arguments alone, and every call but the mixer
   computes what its reference computes over the extended reals. -/
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.PleLast
public import proofs.«01_k».proof.Proof.Gen.PleLast.Skeleton
public import proofs.«01_k».proof.Proof.Gen.PleLast.Launch
public import proofs.«01_k».proof.Proof.Gen.PleLast.Points
public import proofs.«01_k».proof.Proof.Gen.PleLast.Frame
public import proofs.«01_k».proof.Proof.Gen.PleLastIdeal
public import proofs.«01_k».proof.Proof.Gen.PleLastIdeal.Skeleton
public import proofs.«01_k».proof.Proof.Gen.PleLastIdeal.Launch
public import proofs.«01_k».proof.Proof.Gen.PleLastIdeal.Points
public import proofs.«01_k».proof.Proof.Gen.PleLastIdeal.Frame
public import proofs.«01_k».proof.Proof.Gen.PleLastRefIdeal
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.PleIdeal.Value
public import proofs.«01_k».proof.Proof.Gen.PleRefIdeal.Run
public import proofs.«01_k».proof.Proof.Gen.PleRefIdeal.Read
public import proofs.«01_k».proof.Proof.Gen.PleLastIdeal.Value
public import proofs.«01_k».proof.Proof.Gen.PleLastRefIdeal.Run
public import proofs.«01_k».proof.Proof.Gen.PleLastRefIdeal.Read
public import Idealize.ShloMosaic.Adequacy
public import Idealize.ShloMosaic.Init
public import proofs.«01_k».proof.Proof.InProjValue
public import proofs.«01_k».proof.Proof.OutProjValue
public import proofs.«01_k».proof.Proof.FfnUpValue
public import proofs.«01_k».proof.Proof.FfnDownValue
public import proofs.«01_k».proof.Proof.PleValue
public import proofs.«01_k».proof.Proof.PleLastValue
public import proofs.«01_k».proof.Proof.Gen.InProjNext
public import proofs.«01_k».proof.Proof.Gen.InProjNext.Skeleton
public import proofs.«01_k».proof.Proof.Gen.InProjNext.Launch
public import proofs.«01_k».proof.Proof.Gen.InProjNext.Points
public import proofs.«01_k».proof.Proof.Gen.InProjNext.Frame
public import proofs.«01_k».proof.Proof.Gen.InProjNextIdeal
public import proofs.«01_k».proof.Proof.Gen.InProjNextIdeal.Skeleton
public import proofs.«01_k».proof.Proof.Gen.InProjNextIdeal.Launch
public import proofs.«01_k».proof.Proof.Gen.InProjNextIdeal.Points
public import proofs.«01_k».proof.Proof.Gen.InProjNextIdeal.Frame
public import proofs.«01_k».proof.Proof.Gen.InProjNextRefIdeal
public import proofs.«01_k».proof.Proof.Gen.InProjNextIdeal.Value
public import proofs.«01_k».proof.Proof.Gen.InProjNextRefIdeal.Run
public import proofs.«01_k».proof.Proof.Gen.InProjNextRefIdeal.Read
public import proofs.«01_k».proof.Proof.InProjNextValue
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import Idealize.ShloMosaic.Lib.Claim
public import Idealize.ShloMosaic.Lib.Quiescent

@[expose] public section

set_option maxRecDepth 16384

noncomputable section

namespace Cert.Proof

open Idealize.ShloMosaic Idealize.SL.Sem

/-- The reference of the input projection runs and leaves its arguments as they were. -/
theorem frameInProjRef : Cert.quiescent_InProjRefIdeal := by
  intro m g _
  run_from Cert.InProjRefIdeal.Value.run m g
  · simp
  · exact sem_eq_zero_of_no_sems (by decide : Cert.InProjRefIdeal.sig.nSem + Cert.InProjRefIdeal.sig.nDmaSem = 0) _

/-- The reference of the input projection without the norm runs and leaves its arguments as they were. -/
theorem frameInProjNextRef : Cert.quiescent_InProjNextRefIdeal := by
  intro m g _
  run_from Cert.InProjNextRefIdeal.Value.run m g
  · simp
  · exact sem_eq_zero_of_no_sems (by decide : Cert.InProjNextRefIdeal.sig.nSem + Cert.InProjNextRefIdeal.sig.nDmaSem = 0) _

/-- The reference of the output projection runs and leaves its arguments as they were. -/
theorem frameOutProjRef : Cert.quiescent_OutProjRefIdeal := by
  intro m g _
  run_from Cert.OutProjRefIdeal.Value.run m g
  · simp
  · exact sem_eq_zero_of_no_sems (by decide : Cert.OutProjRefIdeal.sig.nSem + Cert.OutProjRefIdeal.sig.nDmaSem = 0) _

/-- The reference of the feed-forward up projection runs and leaves its arguments as they were. -/
theorem frameFfnUpRef : Cert.quiescent_FfnUpRefIdeal := by
  intro m g _
  run_from Cert.FfnUpRefIdeal.Value.run m g
  · simp
  · exact sem_eq_zero_of_no_sems (by decide : Cert.FfnUpRefIdeal.sig.nSem + Cert.FfnUpRefIdeal.sig.nDmaSem = 0) _

/-- The reference of the feed-forward down projection runs and leaves its arguments as they were. -/
theorem frameFfnDownRef : Cert.quiescent_FfnDownRefIdeal := by
  intro m g _
  run_from Cert.FfnDownRefIdeal.Value.run m g
  · simp
  · exact sem_eq_zero_of_no_sems (by decide : Cert.FfnDownRefIdeal.sig.nSem + Cert.FfnDownRefIdeal.sig.nDmaSem = 0) _

/-- The reference of the per-layer gate runs and leaves its arguments as they were. -/
theorem framePleRef : Cert.quiescent_PleRefIdeal := by
  intro m g _
  run_from Cert.PleRefIdeal.Value.run m g
  · simp
  · exact sem_eq_zero_of_no_sems (by decide : Cert.PleRefIdeal.sig.nSem + Cert.PleRefIdeal.sig.nDmaSem = 0) _

/-- The reference of the last layer's per-layer gate runs and leaves its arguments as they were. -/
theorem framePleLastRef : Cert.quiescent_PleLastRefIdeal := by
  intro m g _
  run_from Cert.PleLastRefIdeal.Value.run m g
  · simp
  · exact sem_eq_zero_of_no_sems (by decide : Cert.PleLastRefIdeal.sig.nSem + Cert.PleLastRefIdeal.sig.nDmaSem = 0) _

/-- The input projection over the extended reals computes what the reference computes. -/
theorem algebraicInProj : Cert.algebraic_InProjIdeal_InProjRefIdeal := by
  pair_intro
  · run_from Cert.InProjIdeal.Gen.run_main m g
  · run_from Cert.InProjRefIdeal.Value.run m' g'
    · rw [Cert.InProjRefIdeal.Read.val_main_v27_eq, (hagree c).1, (hagree c).2.1, (hagree c).2.2]
      exact (Cert.InProjIdeal.Hand.final m c).symm

/-- The input projection without the norm over the extended reals computes what the reference computes. -/
theorem algebraicInProjNext : Cert.algebraic_InProjNextIdeal_InProjNextRefIdeal := by
  pair_intro
  · run_from Cert.InProjNextIdeal.Gen.run_main m g
  · run_from Cert.InProjNextRefIdeal.Value.run m' g'
    · rw [Cert.InProjNextRefIdeal.Read.val_main_v15_eq, (hagree c).1, (hagree c).2]
      exact (Cert.InProjNextIdeal.Hand.final m c).symm

/-- The output projection over the extended reals computes what the reference computes. -/
theorem algebraicOutProj : Cert.algebraic_OutProjIdeal_OutProjRefIdeal := by
  pair_intro
  · run_from Cert.OutProjIdeal.Gen.run_main m g
  · run_from Cert.OutProjRefIdeal.Value.run m' g'
    · exact (Cert.OutProjIdeal.Hand.final4 m c).symm
    · exact (Cert.OutProjIdeal.Hand.final5 m c).symm

/-- The feed-forward up projection over the extended reals computes what the reference computes. -/
theorem algebraicFfnUp : Cert.algebraic_FfnUpIdeal_FfnUpRefIdeal := by
  pair_intro
  · run_from Cert.FfnUpIdeal.Gen.run_main m g
  · run_from Cert.FfnUpRefIdeal.Value.run m' g'
    · rw [Cert.FfnUpRefIdeal.Read.val_main_v38_eq, (hagree c).1, (hagree c).2.1, (hagree c).2.2.1, (hagree c).2.2.2]
      exact (Cert.FfnUpIdeal.Hand.final m c).symm

/-- The feed-forward down projection over the extended reals computes what the reference computes. -/
theorem algebraicFfnDown : Cert.algebraic_FfnDownIdeal_FfnDownRefIdeal := by
  pair_intro
  · run_from Cert.FfnDownIdeal.Gen.run_main m g
  · run_from Cert.FfnDownRefIdeal.Value.run m' g'
    · exact (Cert.FfnDownIdeal.Hand.final4 m c).symm
    · exact (Cert.FfnDownIdeal.Hand.final5 m c).symm

/-- The per-layer gate over the extended reals computes what the reference computes. -/
theorem algebraicPle : Cert.algebraic_PleIdeal_PleRefIdeal := by
  pair_intro
  · run_from Cert.PleIdeal.Gen.run_main m g
  · run_from Cert.PleRefIdeal.Value.run m' g'
    · exact (Cert.PleIdeal.Hand.final6 m c).symm
    · exact (Cert.PleIdeal.Hand.final7 m c).symm

/-- The last layer's per-layer gate over the extended reals computes what the reference computes. -/
theorem algebraicPleLast : Cert.algebraic_PleLastIdeal_PleLastRefIdeal := by
  pair_intro
  · run_from Cert.PleLastIdeal.Gen.run_main m g
  · run_from Cert.PleLastRefIdeal.Value.run m' g'
    · exact (Cert.PleLastIdeal.Hand.final6 m c).symm

/-- Every claim of the certificate. -/
theorem claim : Cert.Claim := ⟨Cert.InProj.Gen.facts, Cert.InProjIdeal.Gen.facts, Cert.InProjRefIdeal.Gen.facts, Cert.InProjNext.Gen.facts, Cert.InProjNextIdeal.Gen.facts, Cert.InProjNextRefIdeal.Gen.facts, Cert.OutProj.Gen.facts, Cert.OutProjIdeal.Gen.facts, Cert.OutProjRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.Ple.Gen.facts, Cert.PleIdeal.Gen.facts, Cert.PleRefIdeal.Gen.facts, Cert.PleLast.Gen.facts, Cert.PleLastIdeal.Gen.facts, Cert.PleLastRefIdeal.Gen.facts,
  Cert.Mixer.Gen.facts, Cert.MixerIdeal.Gen.facts,
  fun m ρ _ => Cert.InProj.Gen.frame m ρ, fun m ρ _ => Cert.InProjIdeal.Gen.frame m ρ, frameInProjRef, fun m ρ _ => Cert.InProjNext.Gen.frame m ρ, fun m ρ _ => Cert.InProjNextIdeal.Gen.frame m ρ, frameInProjNextRef, fun m ρ _ => Cert.OutProj.Gen.frame m ρ, fun m ρ _ => Cert.OutProjIdeal.Gen.frame m ρ, frameOutProjRef, fun m ρ _ => Cert.FfnUp.Gen.frame m ρ, fun m ρ _ => Cert.FfnUpIdeal.Gen.frame m ρ, frameFfnUpRef, fun m ρ _ => Cert.FfnDown.Gen.frame m ρ, fun m ρ _ => Cert.FfnDownIdeal.Gen.frame m ρ, frameFfnDownRef, fun m ρ _ => Cert.Ple.Gen.frame m ρ, fun m ρ _ => Cert.PleIdeal.Gen.frame m ρ, framePleRef, fun m ρ _ => Cert.PleLast.Gen.frame m ρ, fun m ρ _ => Cert.PleLastIdeal.Gen.frame m ρ, framePleLastRef,
  fun m ρ _ => Cert.Mixer.Gen.frame m ρ, fun m ρ _ => Cert.MixerIdeal.Gen.frame m ρ,
  trivial, algebraicInProj, trivial, algebraicInProjNext, trivial, algebraicOutProj, trivial, algebraicFfnUp, trivial, algebraicFfnDown, trivial, algebraicPle, trivial, algebraicPleLast, trivial⟩

end Cert.Proof

end
